-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S128x1152 Cert.KernelIdeal.S64x1152
  ∧ IdealRules.bf16_pack.Statement Cert.KernelIdeal.S64x1152

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x1024 : Shape := ⟨3, ![6, 4096, 1024]⟩
abbrev S512x1152 : Shape := ⟨2, ![512, 1152]⟩
abbrev S8x1152 : Shape := ⟨2, ![8, 1152]⟩
abbrev S6x4096x1152 : Shape := ⟨3, ![6, 4096, 1152]⟩
abbrev S1152 : Shape := ⟨1, ![1152]⟩
abbrev S24576x1024 : Shape := ⟨2, ![24576, 1024]⟩
abbrev S24576x1152 : Shape := ⟨2, ![24576, 1152]⟩
abbrev S1x1152 : Shape := ⟨2, ![1, 1152]⟩
abbrev S24576x1 : Shape := ⟨2, ![24576, 1]⟩
abbrev S1024x1024 : Shape := ⟨2, ![1024, 1024]⟩
abbrev S1024x1152 : Shape := ⟨2, ![1024, 1152]⟩
abbrev S1024x1 : Shape := ⟨2, ![1024, 1]⟩
abbrev S64x1152 : Shape := ⟨2, ![64, 1152]⟩
abbrev S128x1152 : Shape := ⟨2, ![128, 1152]⟩
abbrev S256x1024 : Shape := ⟨2, ![256, 1024]⟩
abbrev S1024x256 : Shape := ⟨2, ![1024, 256]⟩
abbrev S256x256 : Shape := ⟨2, ![256, 256]⟩
abbrev S256x128 : Shape := ⟨2, ![256, 128]⟩
abbrev S1024x128 : Shape := ⟨2, ![1024, 128]⟩
abbrev S256x1152 : Shape := ⟨2, ![256, 1152]⟩
abbrev S256 : Shape := ⟨1, ![256]⟩
abbrev S256x1 : Shape := ⟨2, ![256, 1]⟩
abbrev S6x4096x1 : Shape := ⟨3, ![6, 4096, 1]⟩

abbrev nBuf : Space → Nat
  | .hbm => 14
  | .vmem => 14
  | .smem => 0
  | _ => 0

abbrev bufTy : (tb : Table) → Fin (tcTables nBuf tb) → BufTy
  | .hbm, ⟨0, _⟩ => ⟨S6x4096x1024, .bf16⟩
  | .hbm, ⟨1, _⟩ => ⟨S512x1152, .i8⟩
  | .hbm, ⟨2, _⟩ => ⟨S8x1152, .f32⟩
  | .hbm, ⟨3, _⟩ => ⟨S6x4096x1152, .bf16⟩
  | .hbm, ⟨4, _⟩ => ⟨S1152, .f32⟩
  | .hbm, ⟨5, _⟩ => ⟨S24576x1024, .bf16⟩
  | .hbm, ⟨6, _⟩ => ⟨S24576x1152, .bf16⟩
  | .hbm, ⟨7, _⟩ => ⟨S1x1152, .f32⟩
  | .hbm, ⟨8, _⟩ => ⟨S24576x1152, .bf16⟩
  | .hbm, ⟨9, _⟩ => ⟨S24576x1152, .i8⟩
  | .hbm, ⟨10, _⟩ => ⟨S24576x1, .f32⟩
  | .hbm, ⟨11, _⟩ => ⟨S6x4096x1152, .bf16⟩
  | .hbm, ⟨12, _⟩ => ⟨S6x4096x1152, .i8⟩
  | .hbm, ⟨13, _⟩ => ⟨S6x4096x1, .f32⟩
  | .local _ .vmem, ⟨0, _⟩ => ⟨S1024x1024, .bf16⟩
  | .local _ .vmem, ⟨1, _⟩ => ⟨S1024x1024, .bf16⟩
  | .local _ .vmem, ⟨2, _⟩ => ⟨S512x1152, .i8⟩
  | .local _ .vmem, ⟨3, _⟩ => ⟨S8x1152, .f32⟩
  | .local _ .vmem, ⟨4, _⟩ => ⟨S1024x1152, .bf16⟩
  | .local _ .vmem, ⟨5, _⟩ => ⟨S1024x1152, .bf16⟩
  | .local _ .vmem, ⟨6, _⟩ => ⟨S1x1152, .f32⟩
  | .local _ .vmem, ⟨7, _⟩ => ⟨S1024x1152, .bf16⟩
  | .local _ .vmem, ⟨8, _⟩ => ⟨S1024x1152, .bf16⟩
  | .local _ .vmem, ⟨9, _⟩ => ⟨S1024x1152, .i8⟩
  | .local _ .vmem, ⟨10, _⟩ => ⟨S1024x1152, .i8⟩
  | .local _ .vmem, ⟨11, _⟩ => ⟨S1024x1, .f32⟩
  | .local _ .vmem, ⟨12, _⟩ => ⟨S1024x1, .f32⟩
  | .local _ .vmem, ⟨13, _⟩ => ⟨S1024x1152, .bf16⟩
  | _, _ => ⟨S6x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [BitOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1152 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1152 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1152 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F]
-- ==== ReferenceIdeal.lean ====
abbrev S6x4096x1024 : Shape := ⟨3, ![6, 4096, 1024]⟩
abbrev S512x1152 : Shape := ⟨2, ![512, 1152]⟩
abbrev S8x1152 : Shape := ⟨2, ![8, 1152]⟩
abbrev S6x4096x1152 : Shape := ⟨3, ![6, 4096, 1152]⟩
abbrev S1152 : Shape := ⟨1, ![1152]⟩
abbrev S_ : Shape := ⟨0, ![]⟩
abbrev S8x64x1152 : Shape := ⟨3, ![8, 64, 1152]⟩
abbrev S8x1x1152 : Shape := ⟨3, ![8, 1, 1152]⟩
abbrev S512x1x1152 : Shape := ⟨3, ![512, 1, 1152]⟩
abbrev S512x2x1152 : Shape := ⟨3, ![512, 2, 1152]⟩
abbrev S1024x1152 : Shape := ⟨2, ![1024, 1152]⟩
abbrev S6x4096 : Shape := ⟨2, ![6, 4096]⟩
abbrev S6x4096x1 : Shape := ⟨3, ![6, 4096, 1]⟩
abbrev S1x1x1152 : Shape := ⟨3, ![1, 1, 1152]⟩

abbrev nBuf : Space → Nat
  | .hbm => 91
  | .vmem => 0
  | .smem => 0
  | _ => 0

abbrev bufTy : (tb : Table) → Fin (tcTables nBuf tb) → BufTy
  | .hbm, ⟨0, _⟩ => ⟨S6x4096x1024, .bf16⟩
  | .hbm, ⟨1, _⟩ => ⟨S512x1152, .i8⟩
  | .hbm, ⟨2, _⟩ => ⟨S8x1152, .f32⟩
  | .hbm, ⟨3, _⟩ => ⟨S6x4096x1152, .bf16⟩
  | .hbm, ⟨4, _⟩ => ⟨S1152, .f32⟩
  | .hbm, ⟨5, _⟩ => ⟨S8x1152, .bf16⟩
  | .hbm, ⟨6, _⟩ => ⟨S512x1152, .i32⟩
  | .hbm, ⟨7, _⟩ => ⟨S_, .i32⟩
  | .hbm, ⟨8, _⟩ => ⟨S512x1152, .i32⟩
  | .hbm, ⟨9, _⟩ => ⟨S512x1152, .i32⟩
  | .hbm, ⟨10, _⟩ => ⟨S_, .i32⟩
  | .hbm, ⟨11, _⟩ => ⟨S512x1152, .i32⟩
  | .hbm, ⟨12, _⟩ => ⟨S512x1152, .i1⟩
  | .hbm, ⟨13, _⟩ => ⟨S_, .i32⟩
  | .hbm, ⟨14, _⟩ => ⟨S512x1152, .i32⟩
  | .hbm, ⟨15, _⟩ => ⟨S512x1152, .i32⟩
  | .hbm, ⟨16, _⟩ => ⟨S512x1152, .i32⟩
  | .hbm, ⟨17, _⟩ => ⟨S512x1152, .bf16⟩
  | .hbm, ⟨18, _⟩ => ⟨S8x64x1152, .bf16⟩
  | .hbm, ⟨19, _⟩ => ⟨S8x1x1152, .bf16⟩
  | .hbm, ⟨20, _⟩ => ⟨S8x64x1152, .bf16⟩
  | .hbm, ⟨21, _⟩ => ⟨S8x64x1152, .bf16⟩
  | .hbm, ⟨22, _⟩ => ⟨S512x1152, .bf16⟩
  | .hbm, ⟨23, _⟩ => ⟨S_, .i32⟩
  | .hbm, ⟨24, _⟩ => ⟨S512x1152, .i32⟩
  | .hbm, ⟨25, _⟩ => ⟨S512x1152, .i32⟩
  | .hbm, ⟨26, _⟩ => ⟨S_, .i32⟩
  | .hbm, ⟨27, _⟩ => ⟨S512x1152, .i32⟩
  | .hbm, ⟨28, _⟩ => ⟨S512x1152, .i1⟩
  | .hbm, ⟨29, _⟩ => ⟨S_, .i32⟩
  | .hbm, ⟨30, _⟩ => ⟨S512x1152, .i32⟩
  | .hbm, ⟨31, _⟩ => ⟨S512x1152, .i32⟩
  | .hbm, ⟨32, _⟩ => ⟨S512x1152, .i32⟩
  | .hbm, ⟨33, _⟩ => ⟨S512x1152, .bf16⟩
  | .hbm, ⟨34, _⟩ => ⟨S8x64x1152, .bf16⟩
  | .hbm, ⟨35, _⟩ => ⟨S8x1x1152, .bf16⟩
  | .hbm, ⟨36, _⟩ => ⟨S8x64x1152, .bf16⟩
  | .hbm, ⟨37, _⟩ => ⟨S8x64x1152, .bf16⟩
  | .hbm, ⟨38, _⟩ => ⟨S512x1152, .bf16⟩
  | .hbm, ⟨39, _⟩ => ⟨S512x1x1152, .bf16⟩
  | .hbm, ⟨40, _⟩ => ⟨S512x1x1152, .bf16⟩
  | .hbm, ⟨41, _⟩ => ⟨S512x2x1152, .bf16⟩
  | .hbm, ⟨42, _⟩ => ⟨S1024x1152, .bf16⟩
  | .hbm, ⟨43, _⟩ => ⟨S6x4096x1152, .f32⟩
  | .hbm, ⟨44, _⟩ => ⟨S6x4096x1152, .f32⟩
  | .hbm, ⟨45, _⟩ => ⟨S6x4096x1152, .f32⟩
  | .hbm, ⟨46, _⟩ => ⟨S6x4096x1152, .bf16⟩
  | .hbm, ⟨47, _⟩ => ⟨S6x4096x1152, .f32⟩
  | .hbm, ⟨48, _⟩ => ⟨S6x4096x1152, .f32⟩
  | .hbm, ⟨49, _⟩ => ⟨S_, .f32⟩
  | .hbm, ⟨50, _⟩ => ⟨S6x4096, .f32⟩
  | .hbm, ⟨51, _⟩ => ⟨S6x4096x1, .f32⟩
  | .hbm, ⟨52, _⟩ => ⟨S_, .f32⟩
  | .hbm, ⟨53, _⟩ => ⟨S6x4096x1, .f32⟩
  | .hbm, ⟨54, _⟩ => ⟨S6x4096x1, .f32⟩
  | .hbm, ⟨55, _⟩ => ⟨S_, .f32⟩
  | .hbm, ⟨56, _⟩ => ⟨S6x4096x1, .f32⟩
  | .hbm, ⟨57, _⟩ => ⟨S6x4096x1, .f32⟩
  | .hbm, ⟨58, _⟩ => ⟨S6x4096x1, .f32⟩
  | .hbm, ⟨59, _⟩ => ⟨S6x4096x1152, .f32⟩
  | .hbm, ⟨60, _⟩ => ⟨S6x4096x1152, .f32⟩
  | .hbm, ⟨61, _⟩ => ⟨S1x1x1152, .f32⟩
  | .hbm, ⟨62, _⟩ => ⟨S6x4096x1152, .f32⟩
  | .hbm, ⟨63, _⟩ => ⟨S6x4096x1152, .f32⟩
  | .hbm, ⟨64, _⟩ => ⟨S6x4096x1152, .f32⟩
  | .hbm, ⟨65, _⟩ => ⟨S_, .f32⟩
  | .hbm, ⟨66, _⟩ => ⟨S6x4096, .f32⟩
  | .hbm, ⟨67, _⟩ => ⟨S6x4096x1, .f32⟩
  | .hbm, ⟨68, _⟩ => ⟨S_, .f32⟩
  | .hbm, ⟨69, _⟩ => ⟨S6x4096x1, .f32⟩
  | .hbm, ⟨70, _⟩ => ⟨S6x4096x1, .i1⟩
  | .hbm, ⟨71, _⟩ => ⟨S_, .f32⟩
  | .hbm, ⟨72, _⟩ => ⟨S6x4096x1, .f32⟩
  | .hbm, ⟨73, _⟩ => ⟨S6x4096x1, .f32⟩
  | .hbm, ⟨74, _⟩ => ⟨S_, .f32⟩
  | .hbm, ⟨75, _⟩ => ⟨S_, .f32⟩
  | .hbm, ⟨76, _⟩ => ⟨S6x4096x1, .f32⟩
  | .hbm, ⟨77, _⟩ => ⟨S6x4096x1, .f32⟩
  | .hbm, ⟨78, _⟩ => ⟨S6x4096x1152, .f32⟩
  | .hbm, ⟨79, _⟩ => ⟨S6x4096x1152, .f32⟩
  | .hbm, ⟨80, _⟩ => ⟨S6x4096x1152, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S6x4096x1152, .f32⟩
  | .hbm, ⟨85, _⟩ => ⟨S6x4096x1152, .f32⟩
  | .hbm, ⟨86, _⟩ => ⟨S_, .f32⟩
  | .hbm, ⟨87, _⟩ => ⟨S6x4096x1152, .f32⟩
  | .hbm, ⟨88, _⟩ => ⟨S6x4096x1152, .f32⟩
  | .hbm, ⟨89, _⟩ => ⟨S6x4096x1152, .i32⟩
  | .hbm, ⟨90, _⟩ => ⟨S6x4096x1152, .i8⟩
  | _, _ => ⟨S6x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_call2_v0 : Ref sig .tc := ⟨.hbm, 75, rfl⟩
abbrev main_call2_v1 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_cst_12 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== Proof.Pieces.lean ====
/-
  What one grid point of the kernel stores, written as lists of pieces (a rectangle and the array stored there):
  the dequantised weights of the first point, and, for each band of 256 rows, the pieces of the hidden rows, the
  codes and the scales. The reads the pieces are made from are parameters, so one statement serves both cases.
-/
module

public import proofs.«01_k».proof.Defs
public import proofs.«01_k».proof.Proof.Gen.KernelIdeal.Frame
public import Idealize.ShloMosaic.Lib.Pipeline.Value

@[expose] public section
noncomputable section
open Idealize.ShloMosaic Idealize.ShloMosaic.TcCoe Idealize.SL.Sem

namespace Cert.KernelIdeal.Value
open Cert.KernelIdeal Cert.KernelIdeal.Gen
variable {F : FTy → Type} [FloatOps F]

/-- A read of a rectangle of the activations, of the weights in scratch (or the residual), as functions of the rectangle. -/
abbrev Reader (F : FTy → Type) (s : Shape) (e : EltTy) : Type := (r : Rect s) → r.shape.Idx → Elt F e

/-- The 256 rows of activations of the band at row `a`. -/
def xBand (rx : Reader F S1024x1024 .bf16) (a : ℕ) (ha : a + 256 ≤ 1024) : Vec F S256x1024 .bf16 :=
  rx (Rect.unit (s := S1024x1024) ![a, 0] S256x1024.size (by intro i; fin_cases i <;> simp <;> omega))

/-- Columns `b … b+255` of the weights. -/
def wCols (rw : Reader F S1024x1152 .bf16) (b : ℕ) (hb : b + 256 ≤ 1152) : Vec F S1024x256 .bf16 :=
  rw (Rect.unit (s := S1024x1152) ![0, b] S1024x256.size (by intro i; fin_cases i <;> simp <;> omega))

/-- The last 128 columns of the weights. -/
def wTail (rw : Reader F S1024x1152 .bf16) : Vec F S1024x128 .bf16 :=
  rw (Rect.unit (s := S1024x1152) ![0, 1024] S1024x128.size (by intro i; fin_cases i <;> simp))

/-- The tile of a `1024 × 1152` array at row `a`, column `b`. -/
def tile (a b : ℕ) (ha : a + 256 ≤ 1024) (hb : b + 256 ≤ 1152) : Rect S1024x1152 :=
  Rect.unit (s := S1024x1152) ![a, b] S256x256.size (by intro i; fin_cases i <;> simp <;> omega)

/-- The narrow tile of the last 128 columns at row `a`. -/
def tailTile (a : ℕ) (ha : a + 256 ≤ 1024) : Rect S1024x1152 :=
  Rect.unit (s := S1024x1152) ![a, 1024] S256x128.size (by intro i; fin_cases i <;> simp <;> omega)

/-- The residual tile at row `a`, column `b`. -/
def rTile (rr : Reader F S1024x1152 .bf16) (a b : ℕ) (ha : a + 256 ≤ 1024) (hb : b + 256 ≤ 1152) : Vec F S256x256 .bf16 :=
  rr (tile a b ha hb)

/-- The residual's narrow tile at row `a`. -/
def rTail (rr : Reader F S1024x1152 .bf16) (a : ℕ) (ha : a + 256 ≤ 1024) : Vec F S256x128 .bf16 := rr (tailTile a ha)

/-- The piece of hidden rows at row `a`, columns `b … b+255`. -/
def hPiece (rx : Reader F S1024x1024 .bf16) (rw rr : Reader F S1024x1152 .bf16) (a b : ℕ) (ha : a + 256 ≤ 1024) (hb : b + 256 ≤ 1152) :
    View.Piece (Elt F) S1024x1152 .bf16 :=
  ⟨tile a b ha hb, k0_pay25 (xBand rx a ha) (wCols rw b hb) (rTile rr a b ha hb)⟩

/-- The piece of hidden rows at row `a`, last 128 columns. -/
def hTail (rx : Reader F S1024x1024 .bf16) (rw rr : Reader F S1024x1152 .bf16) (a : ℕ) (ha : a + 256 ≤ 1024) :
    View.Piece (Elt F) S1024x1152 .bf16 :=
  ⟨tailTile a ha, k0_pay31 (k0_pay24 (xBand rx a ha)) (wTail rw) (rTail rr a ha)⟩

/-- The five pieces of hidden rows of the band at row `a`, the last stored first. -/
def hBand (rx : Reader F S1024x1024 .bf16) (rw rr : Reader F S1024x1152 .bf16) (a : ℕ) (ha : a + 256 ≤ 1024) :
    List (View.Piece (Elt F) S1024x1152 .bf16) :=
  [hTail rx rw rr a ha, hPiece rx rw rr a 768 ha (by decide), hPiece rx rw rr a 512 ha (by decide),
    hPiece rx rw rr a 256 ha (by decide), hPiece rx rw rr a 0 ha (by decide)]

/-- All the hidden rows' pieces stored once band `0` is done. -/
def hList0 (rx : Reader F S1024x1024 .bf16) (rw rr : Reader F S1024x1152 .bf16) : List (View.Piece (Elt F) S1024x1152 .bf16) :=
  hBand rx rw rr 0 (by decide)
/-- … once band `1` is done. -/
def hList1 (rx : Reader F S1024x1024 .bf16) (rw rr : Reader F S1024x1152 .bf16) : List (View.Piece (Elt F) S1024x1152 .bf16) :=
  hBand rx rw rr 256 (by decide) ++ hList0 rx rw rr
/-- … once band `2` is done. -/
def hList2 (rx : Reader F S1024x1024 .bf16) (rw rr : Reader F S1024x1152 .bf16) : List (View.Piece (Elt F) S1024x1152 .bf16) :=
  hBand rx rw rr 512 (by decide) ++ hList1 rx rw rr
/-- … once band `3` is done: all of them. -/
def hList3 (rx : Reader F S1024x1024 .bf16) (rw rr : Reader F S1024x1152 .bf16) : List (View.Piece (Elt F) S1024x1152 .bf16) :=
  hBand rx rw rr 768 (by decide) ++ hList2 rx rw rr

/-- The band's sums of squares folded to 128 lanes: the eight chunks of the four wide tiles. -/
def part8 (rx : Reader F S1024x1024 .bf16) (rw rr : Reader F S1024x1152 .bf16) (a : ℕ) (ha : a + 256 ≤ 1024) : FVec F S256x128 .f32 :=
  k0_pay30 (k0_pay24 (xBand rx a ha))
    (k0_pay27 (xBand rx a ha) (wCols rw 0 (by decide)) (rTile rr a 0 ha (by decide)) (wCols rw 256 (by decide)) (rTile rr a 256 ha (by decide)))
    (wCols rw 512 (by decide)) (rTile rr a 512 ha (by decide)) (wCols rw 768 (by decide)) (rTile rr a 768 ha (by decide))

/-- … and the ninth chunk, the narrow tile's. -/
def part1 (rx : Reader F S1024x1024 .bf16) (rw rr : Reader F S1024x1152 .bf16) (a : ℕ) (ha : a + 256 ≤ 1024) : FVec F S256x128 .f32 :=
  k0_pay32 (k0_pay24 (xBand rx a ha)) (wTail rw) (rTail rr a ha)

/-- The whole-width tile of rows `a … a+255`. -/
def wide (a : ℕ) (ha : a + 256 ≤ 1024) : Rect S1024x1152 :=
  Rect.unit (s := S1024x1152) ![a, 0] S256x1152.size (by intro i; fin_cases i <;> simp <;> omega)

/-- The scales' rectangle of rows `a … a+255`. -/
def thin (a : ℕ) (ha : a + 256 ≤ 1024) : Rect S1024x1 :=
  Rect.unit (s := S1024x1) ![a, 0] S256x1.size (by intro i; fin_cases i <;> simp <;> omega)

/-- The scales' piece of the band at row `a`, its hidden rows read back being `hv`. -/
def sPiece (g : Vec F S1x1152 .f32) (rx : Reader F S1024x1024 .bf16) (rw rr : Reader F S1024x1152 .bf16) (a : ℕ) (ha : a + 256 ≤ 1024)
    (hv : Vec F S256x1152 .bf16) : View.Piece (Elt F) S1024x1 .f32 :=
  ⟨thin a ha, k0_pay34 (k0_pay23 g) (part8 rx rw rr a ha) (part1 rx rw rr a ha) hv⟩

/-- The codes' piece of the band at row `a`, its hidden rows read back being `hv`. -/
def cPiece (g : Vec F S1x1152 .f32) (rx : Reader F S1024x1024 .bf16) (rw rr : Reader F S1024x1152 .bf16) (a : ℕ) (ha : a + 256 ≤ 1024)
    (hv : Vec F S256x1152 .bf16) : View.Piece (Elt F) S1024x1152 .i8 :=
  ⟨wide a ha, k0_pay35 (k0_pay23 g) (part8 rx rw rr a ha) (part1 rx rw rr a ha) hv⟩

/-- The scales' four pieces, the read back of each band (`rh` of the pieces stored so far) a parameter. -/
def sList (g : Vec F S1x1152 .f32) (rx : Reader F S1024x1024 .bf16) (rw rr : Reader F S1024x1152 .bf16)
    (rh : List (View.Piece (Elt F) S1024x1152 .bf16) → Reader F S1024x1152 .bf16) : List (View.Piece (Elt F) S1024x1 .f32) :=
  [sPiece g rx rw rr 768 (by decide) (rh (hList3 rx rw rr) (wide 768 (by decide))),
   sPiece g rx rw rr 512 (by decide) (rh (hList2 rx rw rr) (wide 512 (by decide))),
   sPiece g rx rw rr 256 (by decide) (rh (hList1 rx rw rr) (wide 256 (by decide))),
   sPiece g rx rw rr 0 (by decide) (rh (hList0 rx rw rr) (wide 0 (by decide)))]

/-- The codes' four pieces. -/
def cList (g : Vec F S1x1152 .f32) (rx : Reader F S1024x1024 .bf16) (rw rr : Reader F S1024x1152 .bf16)
    (rh : List (View.Piece (Elt F) S1024x1152 .bf16) → Reader F S1024x1152 .bf16) : List (View.Piece (Elt F) S1024x1152 .i8) :=
  [cPiece g rx rw rr 768 (by decide) (rh (hList3 rx rw rr) (wide 768 (by decide))),
   cPiece g rx rw rr 512 (by decide) (rh (hList2 rx rw rr) (wide 512 (by decide))),
   cPiece g rx rw rr 256 (by decide) (rh (hList1 rx rw rr) (wide 256 (by decide))),
   cPiece g rx rw rr 0 (by decide) (rh (hList0 rx rw rr) (wide 0 (by decide)))]

/-- The packed rows `b … b+63`. -/
def pRows (rp : Reader F S512x1152 .i8) (b : ℕ) (hb : b + 64 ≤ 512) : Vec F S64x1152 .i8 :=
  rp (Rect.unit (s := S512x1152) ![b, 0] S64x1152.size (by intro i; fin_cases i <;> simp <;> omega))

/-- One group's 128 rows of weights, from its 64 packed rows and its row `g` of the scales. -/
def deq (g : ℕ) (hg : Shape.Slices S8x1152 ![g, 0] S1x1152) (s : Vec F S8x1152 .f32) (p : Vec F S64x1152 .i8) : FVec F S128x1152 .bf16 :=
  have w : IVec S64x1152 32 := extui 32 p natLt_8_32
  have row : FVec F S1x1152 .f32 := extractStridedSlice S1x1152 ![g, 0] (k0_pay1 s) hg
  have sc : FVec F S64x1152 .f32 := broadcastTo S64x1152 row broadcasts_S1x1152_S64x1152
  have lo : FVec F S64x1152 .f32 := sitofp .f32 (shrsi (shli w (broadcast S64x1152 28#32)) (broadcast S64x1152 28#32))
  have hi : FVec F S64x1152 .f32 := sitofp .f32 (shrsi (shli w (broadcast S64x1152 24#32)) (broadcast S64x1152 28#32))
  shapeCast S128x1152 (interleaveRows S128x1152
      (truncf .bf16 (extf .f32 (truncf .bf16 (mulf lo sc) bitsLt_bf16_f32) bitsLt_bf16_f32))
      (truncf .bf16 (extf .f32 (truncf .bf16 (mulf hi sc) bitsLt_bf16_f32) bitsLt_bf16_f32))
      bitcasts_S128x1152_w16_S64x1152_w32) shapeCasts_S128x1152_S128x1152

/-- A group's piece of the weights in scratch, at row `a`, from the packed rows at `b`. -/
def dPiece (s : Vec F S8x1152 .f32) (rp : Reader F S512x1152 .i8) (g a b : ℕ) (hg : Shape.Slices S8x1152 ![g, 0] S1x1152)
    (ha : a + 128 ≤ 1024) (hb : b + 64 ≤ 512) : View.Piece (Elt F) S1024x1152 .bf16 :=
  ⟨Rect.unit (s := S1024x1152) ![a, 0] S128x1152.size (by intro i; fin_cases i <;> simp <;> omega), deq g hg s (pRows rp b hb)⟩

/-- The weights' eight pieces, the last stored first. -/
def dList (s : Vec F S8x1152 .f32) (rp : Reader F S512x1152 .i8) : List (View.Piece (Elt F) S1024x1152 .bf16) :=
  [dPiece s rp 7 896 448 slices_S8x1152_o7_0_S1x1152 (by decide) (by decide),
   dPiece s rp 6 768 384 slices_S8x1152_o6_0_S1x1152 (by decide) (by decide),
   dPiece s rp 5 640 320 slices_S8x1152_o5_0_S1x1152 (by decide) (by decide),
   dPiece s rp 4 512 256 slices_S8x1152_o4_0_S1x1152 (by decide) (by decide),
   dPiece s rp 3 384 192 slices_S8x1152_o3_0_S1x1152 (by decide) (by decide),
   dPiece s rp 2 256 128 slices_S8x1152_o2_0_S1x1152 (by decide) (by decide),
   dPiece s rp 1 128 64 slices_S8x1152_o1_0_S1x1152 (by decide) (by decide),
   dPiece s rp 0 0 0 slices_S8x1152_o0_0_S1x1152 (by decide) (by decide)]

section Run
variable (c : Dev nD) (i : grid0.Coords) (arg1 : Memref sig .tc .vmem S1024x1024 .bf16) (harg1 : arg1.IsWhole)
  (arg2 : Memref sig .tc .vmem S512x1152 .i8) (harg2 : arg2.IsWhole) (arg3 : Memref sig .tc .vmem S8x1152 .f32) (harg3 : arg3.IsWhole)
  (arg4 : Memref sig .tc .vmem S1024x1152 .bf16) (harg4 : arg4.IsWhole) (arg5 : Memref sig .tc .vmem S1x1152 .f32) (harg5 : arg5.IsWhole)
  (arg6 : Memref sig .tc .vmem S1024x1152 .bf16) (harg6 : arg6.IsWhole) (arg7 : Memref sig .tc .vmem S1024x1152 .i8) (harg7 : arg7.IsWhole)
  (arg8 : Memref sig .tc .vmem S1024x1 .f32) (harg8 : arg8.IsWhole) (arg9 : Memref sig .tc .vmem S1024x1152 .bf16) (harg9 : arg9.IsWhole)
  (x0 : Vec F S1024x1024 .bf16) (x1 : Vec F S512x1152 .i8) (x2 : Vec F S8x1152 .f32) (x3 : Vec F S1024x1152 .bf16) (x4 : Vec F S1x1152 .f32)
  (xs0 : Vec F S1024x1152 .bf16)

/-- The reader of an argument window holding `x`. -/
abbrev rdOf {s : Shape} {e : EltTy} (arg : Memref sig .tc .vmem s e) (harg : arg.IsWhole) (x : Vec F s e) : Reader F s e :=
  fun r => View.readAt (Elt F) arg.view r.toLoadRect (harg.unread x)

/-- The reader of a buffer after the stores of `L`. -/
abbrev rdCov {s : Shape} {e : EltTy} (arg : Memref sig .tc .vmem s e) (L : List (View.Piece (Elt F) s e)) : Reader F s e :=
  fun r => arg.view.readCov L r.toLoadRect

/-- The whole of gamma's window. -/
def gAll (rg : Reader F S1x1152 .f32) : Vec F S1x1152 .f32 := rg (Rect.unit (s := S1x1152) ![0, 0] S1x1152.size (by decide))
/-- The whole of the scales' window. -/
def sAll (rs : Reader F S8x1152 .f32) : Vec F S8x1152 .f32 := rs (Rect.unit (s := S8x1152) ![0, 0] S8x1152.size (by decide))

/-- Case B's hidden rows. -/
theorem runB_5 (hc0 : ¬cond0_0 i) :
    (kernelRun0_B c i arg1 harg1 arg2 harg2 arg3 harg3 arg4 harg4 arg5 harg5 arg6 harg6 arg7 harg7 arg8 harg8 arg9 harg9 hc0 x0 x1 x2 x3 x4 xs0).1
      = hList3 (rdOf arg1 harg1 x0) (rdOf arg9 harg9 xs0) (rdOf arg4 harg4 x3) := by
  unfold kernelRun0_B; rfl

/-- Case B's codes. -/
theorem runB_6 (hc0 : ¬cond0_0 i) :
    (kernelRun0_B c i arg1 harg1 arg2 harg2 arg3 harg3 arg4 harg4 arg5 harg5 arg6 harg6 arg7 harg7 arg8 harg8 arg9 harg9 hc0 x0 x1 x2 x3 x4 xs0).2.1
      = cList (gAll (rdOf arg5 harg5 x4)) (rdOf arg1 harg1 x0) (rdOf arg9 harg9 xs0) (rdOf arg4 harg4 x3) (rdCov arg6) := by
  unfold kernelRun0_B; rfl

/-- Case B's scales. -/
theorem runB_7 (hc0 : ¬cond0_0 i) :
    (kernelRun0_B c i arg1 harg1 arg2 harg2 arg3 harg3 arg4 harg4 arg5 harg5 arg6 harg6 arg7 harg7 arg8 harg8 arg9 harg9 hc0 x0 x1 x2 x3 x4 xs0).2.2.1
      = sList (gAll (rdOf arg5 harg5 x4)) (rdOf arg1 harg1 x0) (rdOf arg9 harg9 xs0) (rdOf arg4 harg4 x3) (rdCov arg6) := by
  unfold kernelRun0_B; rfl

/-- Case A's weights. -/
theorem runA_9 (hc0 : cond0_0 i) :
    (kernelRun0_A c i arg1 harg1 arg2 harg2 arg3 harg3 arg4 harg4 arg5 harg5 arg6 harg6 arg7 harg7 arg8 harg8 arg9 harg9 hc0 x0 x1 x2 x3 x4).2.2.2.1
      = dList (sAll (rdOf arg3 harg3 x2)) (rdOf arg2 harg2 x1) := by
  unfold kernelRun0_A; rfl

/-- Case A's hidden rows: case B's, the weights read back from the pieces just stored. -/
theorem runA_5 (hc0 : cond0_0 i) :
    (kernelRun0_A c i arg1 harg1 arg2 harg2 arg3 harg3 arg4 harg4 arg5 harg5 arg6 harg6 arg7 harg7 arg8 harg8 arg9 harg9 hc0 x0 x1 x2 x3 x4).1
      = hList3 (rdOf arg1 harg1 x0) (rdCov arg9 (dList (sAll (rdOf arg3 harg3 x2)) (rdOf arg2 harg2 x1))) (rdOf arg4 harg4 x3) := by
  unfold kernelRun0_A; rfl

/-- Case A's codes. -/
theorem runA_6 (hc0 : cond0_0 i) :
    (kernelRun0_A c i arg1 harg1 arg2 harg2 arg3 harg3 arg4 harg4 arg5 harg5 arg6 harg6 arg7 harg7 arg8 harg8 arg9 harg9 hc0 x0 x1 x2 x3 x4).2.1
      = cList (gAll (rdOf arg5 harg5 x4)) (rdOf arg1 harg1 x0) (rdCov arg9 (dList (sAll (rdOf arg3 harg3 x2)) (rdOf arg2 harg2 x1)))
          (rdOf arg4 harg4 x3) (rdCov arg6) := by
  unfold kernelRun0_A; rfl

/-- Case A's scales. -/
theorem runA_7 (hc0 : cond0_0 i) :
    (kernelRun0_A c i arg1 harg1 arg2 harg2 arg3 harg3 arg4 harg4 arg5 harg5 arg6 harg6 arg7 harg7 arg8 harg8 arg9 harg9 hc0 x0 x1 x2 x3 x4).2.2.1
      = sList (gAll (rdOf arg5 harg5 x4)) (rdOf arg1 harg1 x0) (rdCov arg9 (dList (sAll (rdOf arg3 harg3 x2)) (rdOf arg2 harg2 x1)))
          (rdOf arg4 harg4 x3) (rdCov arg6) := by
  unfold kernelRun0_A; rfl

end Run

end Cert.KernelIdeal.Value
-- ==== Proof.Spec.lean ====
/-
  The layer's mathematics on extended reals, one row or one element at a time, with no block, tile or program in it:
  the signed four-bit fields of a packed byte, a weight, a hidden element, a row's normalised elements, its scale and
  its codes. Both programs are read into these. With them, the plain facts the two readings differ by: a four-bit
  field by shifts or by a comparison, a sum over 1152 columns by nine chunks of 128 lanes, and rounding before or
  after clipping.
-/
module

public import Idealize.ShloMosaic.PureOps.Ideal
public import Idealize.ShloMosaic.PureOps.Ideal.Laws
public import Idealize.ShloMosaic.Lib.ValueIdx
public import Mathlib.Logic.Equiv.Fin.Basic
public import Mathlib.Algebra.BigOperators.Fin

@[expose] public section
noncomputable section
open Idealize.ShloMosaic

namespace Cert.Spec

/-! ## The four-bit fields -/

/-- The signed value of a packed byte's field: the low one for `k = 0`, the high one otherwise. -/
def nib (k : ℕ) (p : BitVec 8) : EReal :=
  (((p.extractLsb' (if k = 0 then 0 else 4) 4).toInt : ℝ) : EReal)

/-- The low field by shifting left 28 and arithmetically back. -/
theorem lo_shifts (p : BitVec 8) :
    (IntOp.shrsi .vector (IntOp.shli .vector (p.setWidth 32) 28#32) 28#32).toInt = (p.extractLsb' 0 4).toInt := by
  revert p; decide +kernel

/-- The high field by shifting left 24 and arithmetically back 28. -/
theorem hi_shifts (p : BitVec 8) :
    (IntOp.shrsi .vector (IntOp.shli .vector (p.setWidth 32) 24#32) 28#32).toInt = (p.extractLsb' 4 4).toInt := by
  revert p; decide +kernel

/-- The low field by masking, then subtracting 16 from 8 on. -/
theorem lo_where (p : BitVec 8) :
    (Scalar.select (IntOp.cmpi .sge (IntOp.andi (p.setWidth 32) 15#32) 8#32)
      (IntOp.subi (IntOp.andi (p.setWidth 32) 15#32) 16#32) (IntOp.andi (p.setWidth 32) 15#32)).toInt = (p.extractLsb' 0 4).toInt := by
  revert p; decide +kernel

/-- The high field by shifting right 4, then subtracting 16 from 8 on. -/
theorem hi_where (p : BitVec 8) :
    (Scalar.select (IntOp.cmpi .sge (IntOp.shrsi .host (p.setWidth 32) 4#32) 8#32)
      (IntOp.subi (IntOp.shrsi .host (p.setWidth 32) 4#32) 16#32) (IntOp.shrsi .host (p.setWidth 32) 4#32)).toInt
        = (p.extractLsb' 4 4).toInt := by
  revert p; decide +kernel

/-! ## One row -/

/-- A hidden element: the residual plus the row of activations times the column of weights. -/
def hAt (x w : Fin 1024 → EReal) (r : EReal) : EReal := r + ∑ k, x k * w k

/-- The mean of a row's squares. -/
def meanSq (h : Fin 1152 → EReal) : EReal := Ideal.div (∑ c, h c * h c) (Ideal.ofBits .f32 0x44900000#32)

/-- A row's normalised element: the hidden element over the root mean square (with its epsilon), times gamma. -/
def normAt (h g : Fin 1152 → EReal) (c : Fin 1152) : EReal :=
  h c * Ideal.rsqrt (meanSq h + Ideal.ofBits .f32 0x3727C5AC#32) * g c

/-- The largest absolute value of a row. -/
def amax (n : Fin 1152 → EReal) : EReal :=
  (Finset.univ : Finset (Fin 1152)).fold max (Ideal.ofBits .f32 0xFF800000#32) fun c => max (n c) (-(n c))

/-- The row's scale: `1` where the largest absolute value is zero, that value over 127 elsewhere. -/
def scaleOf (a : EReal) : EReal :=
  Scalar.select (Ideal.cmp .oeq a (Ideal.ofBits .f32 0x00000000#32)) (Ideal.ofBits .f32 0x3F800000#32)
    (Ideal.div a (Ideal.ofBits .f32 0x42FE0000#32))

/-- The scale of the row of hidden elements `h`. -/
def rowScale (h g : Fin 1152 → EReal) : EReal := scaleOf (amax (normAt h g))

/-- Rounded to an integer, then clipped to `±127`, as an eight-bit code. -/
def codeOf (z : EReal) : BitVec 8 :=
  (Ideal.fptosi 32 (min (Ideal.ofBits .f32 0x42FE0000#32)
    (max (Ideal.ofBits .f32 0xC2FE0000#32) (Ideal.liftRound Ideal.roundHalfEven z)))).truncate 8

/-- The code of column `c` of the row of hidden elements `h`. -/
def rowCode (h g : Fin 1152 → EReal) (c : Fin 1152) : BitVec 8 := codeOf (Ideal.div (normAt h g c) (rowScale h g))

/-! ## Nine chunks of 128 lanes -/

/-- Column `128 * a + l`. -/
def col (a : Fin 9) (l : Fin 128) : Fin 1152 := ⟨128 * a.val + l.val, by omega⟩

/-- A sum over the 1152 columns is the sum over the lanes of the nine chunks added one after another. -/
theorem sum_lanes (f : Fin 1152 → EReal) :
    ∑ l : Fin 128, (f (col 0 l) + f (col 1 l) + f (col 2 l) + f (col 3 l) + f (col 4 l) + f (col 5 l) + f (col 6 l) + f (col 7 l)
      + f (col 8 l)) = ∑ c, f c := by
  have e : ∑ c, f c = ∑ p : Fin 9 × Fin 128, f (col p.1 p.2) := by
    refine (Fintype.sum_equiv (finProdFinEquiv (m := 9) (n := 128)) _ _ fun p => ?_).symm
    refine congrArg f (Fin.ext ?_)
    simp [col, finProdFinEquiv, add_comm]
  rw [e, Fintype.sum_prod_type, Finset.sum_comm]
  refine Finset.sum_congr rfl fun l _ => ?_
  simp only [Fin.sum_univ_succ, Fin.sum_univ_zero, add_zero]
  simp only [← add_assoc]
  rfl

/-! ## Rounding and clipping -/

/-- The nearest integer is within a half. -/
theorem roundHalfEven_near (r : ℝ) : |(Ideal.roundHalfEven r : ℝ) - r| ≤ 1 / 2 := by
  have h1 := Int.floor_le r
  have h2 := Int.lt_floor_add_one r
  unfold Ideal.roundHalfEven
  dsimp only
  rw [abs_le]
  split_ifs <;> push_cast <;> constructor <;> linarith

/-- Rounding to the nearest integer is monotone. -/
theorem roundHalfEven_mono : Monotone Ideal.roundHalfEven := by
  intro r s hrs
  by_contra hlt
  have hlt : Ideal.roundHalfEven s + 1 ≤ Ideal.roundHalfEven r := by omega
  have hlt' : (Ideal.roundHalfEven s : ℝ) + 1 ≤ Ideal.roundHalfEven r := by exact_mod_cast hlt
  have hr := abs_le.mp (roundHalfEven_near r)
  have hs := abs_le.mp (roundHalfEven_near s)
  have : r = s := by linarith [hr.1, hr.2, hs.1, hs.2]
  subst this
  omega

/-- … on the extended reals too. -/
theorem liftRound_mono : Monotone (Ideal.liftRound Ideal.roundHalfEven) := by
  intro x y hxy
  induction x using EReal.rec with
  | bot => exact bot_le
  | top => rw [top_le_iff.mp hxy]
  | coe r =>
    induction y using EReal.rec with
    | bot => exact absurd hxy (by simp)
    | top => exact le_top
    | coe s =>
      rw [Ideal.liftRound_coe, Ideal.liftRound_coe]
      have := roundHalfEven_mono (EReal.coe_le_coe_iff.mp hxy)
      exact_mod_cast this

/-- An integer rounds to itself. -/
theorem roundHalfEven_int (z : ℤ) : Ideal.roundHalfEven (z : ℝ) = z := by
  unfold Ideal.roundHalfEven
  simp

/-- The bit pattern of 127. -/
theorem ofBits_127 : Ideal.ofBits .f32 0x42FE0000#32 = (((127 : ℤ) : ℝ) : EReal) := by
  simp [Ideal.ofBits, Ideal.ieee, -EReal.coe_mul]; norm_num

/-- The bit pattern of -127. -/
theorem ofBits_neg127 : Ideal.ofBits .f32 0xC2FE0000#32 = (((-127 : ℤ) : ℝ) : EReal) := by
  simp [Ideal.ofBits, Ideal.ieee, -EReal.coe_mul]; norm_num

/-- Rounding commutes with the clip to `±127`: its ends are integers. -/
theorem round_clip (z : EReal) :
    Ideal.liftRound Ideal.roundHalfEven (min (Ideal.ofBits .f32 0x42FE0000#32) (max (Ideal.ofBits .f32 0xC2FE0000#32) z))
      = min (Ideal.ofBits .f32 0x42FE0000#32) (max (Ideal.ofBits .f32 0xC2FE0000#32) (Ideal.liftRound Ideal.roundHalfEven z)) := by
  rw [liftRound_mono.map_min, liftRound_mono.map_max, ofBits_127, ofBits_neg127, Ideal.liftRound_coe, Ideal.liftRound_coe,
    roundHalfEven_int, roundHalfEven_int]

/-- So clipping, then rounding gives the same code. -/
theorem codeOf_clip (z : EReal) :
    (Ideal.fptosi 32 (Ideal.liftRound Ideal.roundHalfEven (min (Ideal.ofBits .f32 0x42FE0000#32)
      (max (Ideal.ofBits .f32 0xC2FE0000#32) z)))).truncate 8 = codeOf z := by
  rw [round_clip]; rfl

end Cert.Spec
-- ==== Proof.Tile.lean ====
/-
  What one stored tile holds, at the exact values: a tile of hidden rows, the folded sums of squares, and the
  normalised rows, scales and codes of a band, each read at one element.
-/
module

public import proofs.«01_k».proof.Proof.Pieces
public import proofs.«01_k».proof.Proof.Spec
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.ValueKit.Tiles

@[expose] public section
noncomputable section
open Idealize.ShloMosaic Idealize.ShloMosaic.TcCoe Idealize.SL.Sem
open Idealize.ShloMosaic.ValueIdx

namespace Cert.KernelIdeal.Value
open Cert.KernelIdeal Cert.KernelIdeal.Gen

/-- A `[256, 1]` column broadcast along 1152 columns reads its row's one element. -/
theorem bcast_col_apply {α : Type} (v : S256x1.Idx → α) (a : Fin 256) (c : Fin 1152) :
    broadcastTo S256x1152 v broadcasts_S256x1_S256x1152 (ix2 a c) = v (ix2 a (0 : Fin 1)) := by
  refine broadcastTo_apply v _ (ix2 a c) (ix2 a (0 : Fin 1)) fun ax => ?_
  match ax with
  | ⟨0, _⟩ => rfl
  | ⟨1, _⟩ => rfl

/-- A wide tile of hidden rows, at an element. -/
theorem pay25_apply (X : Vec Ideal S256x1024 .bf16) (w : Vec Ideal S1024x256 .bf16) (r : Vec Ideal S256x256 .bf16) (a b : Fin 256) :
    k0_pay25 X w r (ix2 a b) = Spec.hAt (fun k => X (ix2 a k)) (fun k => w (ix2 k b)) (r (ix2 a b)) := by
  unfold k0_pay25 k0_pay24
  simp only [shapeCast_self]
  refine (congrArg (fun z : EReal => r (ix2 a b) + z)
    (Ideal.matmul_plain_apply (M := 256) (K := 1024) (N := 256) (φ₁ := .bf16) (φ₂ := .bf16) none X w
      (constant S256x256 .f32 0x00000000#32) a b)).trans ?_
  rw [constant_apply, Ideal.ofBits_zero_f32, zero_add]
  rfl

/-- The narrow tile of hidden rows, at an element. -/
theorem pay31_apply (X : Vec Ideal S256x1024 .bf16) (w : Vec Ideal S1024x128 .bf16) (r : Vec Ideal S256x128 .bf16) (a : Fin 256) (b : Fin 128) :
    k0_pay31 (k0_pay24 X) w r (ix2 a b) = Spec.hAt (fun k => X (ix2 a k)) (fun k => w (ix2 k b)) (r (ix2 a b)) := by
  unfold k0_pay31 k0_pay24
  simp only [shapeCast_self]
  refine (congrArg (fun z : EReal => r (ix2 a b) + z)
    (Ideal.matmul_plain_apply (M := 256) (K := 1024) (N := 128) (φ₁ := .bf16) (φ₂ := .bf16) none X w
      (constant S256x128 .f32 0x00000000#32) a b)).trans ?_
  rw [constant_apply, Ideal.ofBits_zero_f32, zero_add]
  rfl

/-- The low 128 lanes of a wide tile, and its high ones. -/
def lane0 (l : Fin 128) : Fin 256 := ⟨l.val, by omega⟩
@[inherit_doc lane0] def lane1 (l : Fin 128) : Fin 256 := ⟨128 + l.val, by omega⟩

/-- A wide array's low 128 lanes. -/
theorem slice_lo (X : FVec Ideal S256x256 .f32) (a : Fin 256) (l : Fin 128) :
    extractStridedSlice S256x128 ![0, 0] X slices_S256x256_o0_0_S256x128 (ix2 a l) = X (ix2 a (lane0 l)) :=
  slice2_axis1_apply 0 X _ a l (lane0 l) (by simp [lane0])

/-- A wide array's high 128 lanes. -/
theorem slice_hi (X : FVec Ideal S256x256 .f32) (a : Fin 256) (l : Fin 128) :
    extractStridedSlice S256x128 ![0, 128] X slices_S256x256_o0_128_S256x128 (ix2 a l) = X (ix2 a (lane1 l)) :=
  slice2_axis1_apply 128 X _ a l (lane1 l) (by simp [lane1])

/-- The folded squares of the first two tiles. -/
theorem pay27_apply (X : Vec Ideal S256x1024 .bf16) (w0 w1 : Vec Ideal S1024x256 .bf16) (r0 r1 : Vec Ideal S256x256 .bf16)
    (a : Fin 256) (l : Fin 128) :
    k0_pay27 X w0 r0 w1 r1 (ix2 a l)
      = k0_pay25 X w0 r0 (ix2 a (lane0 l)) * k0_pay25 X w0 r0 (ix2 a (lane0 l))
        + k0_pay25 X w0 r0 (ix2 a (lane1 l)) * k0_pay25 X w0 r0 (ix2 a (lane1 l))
        + k0_pay25 X w1 r1 (ix2 a (lane0 l)) * k0_pay25 X w1 r1 (ix2 a (lane0 l))
        + k0_pay25 X w1 r1 (ix2 a (lane1 l)) * k0_pay25 X w1 r1 (ix2 a (lane1 l)) := by
  have e : k0_pay26 X w1 r1 = k0_pay25 X w1 r1 := rfl
  unfold k0_pay27
  rw [e]
  simp only [addf_apply, slice_lo, slice_hi, mulf_apply, extf_apply]

/-- The folded squares of the four wide tiles. -/
theorem pay30_apply (X : Vec Ideal S256x1024 .bf16) (v : FVec Ideal S256x128 .f32) (w2 w3 : Vec Ideal S1024x256 .bf16)
    (r2 r3 : Vec Ideal S256x256 .bf16) (a : Fin 256) (l : Fin 128) :
    k0_pay30 (k0_pay24 X) v w2 r2 w3 r3 (ix2 a l)
      = v (ix2 a l) + k0_pay25 X w2 r2 (ix2 a (lane0 l)) * k0_pay25 X w2 r2 (ix2 a (lane0 l))
        + k0_pay25 X w2 r2 (ix2 a (lane1 l)) * k0_pay25 X w2 r2 (ix2 a (lane1 l))
        + k0_pay25 X w3 r3 (ix2 a (lane0 l)) * k0_pay25 X w3 r3 (ix2 a (lane0 l))
        + k0_pay25 X w3 r3 (ix2 a (lane1 l)) * k0_pay25 X w3 r3 (ix2 a (lane1 l)) := by
  have e : k0_pay28 (k0_pay24 X) w2 r2 = k0_pay25 X w2 r2 := rfl
  have e' : k0_pay29 (k0_pay24 X) w3 r3 = k0_pay25 X w3 r3 := rfl
  unfold k0_pay30
  rw [e, e']
  simp only [addf_apply, slice_lo, slice_hi, mulf_apply, extf_apply]

/-- The narrow tile's squares. -/
theorem pay32_apply (X : Vec Ideal S256x1024 .bf16) (w : Vec Ideal S1024x128 .bf16) (r : Vec Ideal S256x128 .bf16) (a : Fin 256) (l : Fin 128) :
    k0_pay32 (k0_pay24 X) w r (ix2 a l) = k0_pay31 (k0_pay24 X) w r (ix2 a l) * k0_pay31 (k0_pay24 X) w r (ix2 a l) := rfl

/-- The index a row's reduction reads: the row, with the lane inserted. -/
theorem lift_row128 (a : Fin 256) (k : Fin 128) : reduces_S256x128_S256.lift (ix1 a) k = ix2 a k := by
  funext d; match d with
  | ⟨0, _⟩ => rfl
  | ⟨1, _⟩ => rfl

/-- … over 1152 columns. -/
theorem lift_row1152 (a : Fin 256) (k : Fin 1152) : reduces_S256x1152_S256.lift (ix1 a) k = ix2 a k := by
  funext d; match d with
  | ⟨0, _⟩ => rfl
  | ⟨1, _⟩ => rfl

/-- The codes' last three operations at an element: round, convert to an integer, keep its eight low bits. -/
theorem code_apply (z : FVec Ideal S256x1152 .f32) (i : S256x1152.Idx) :
    trunci 8 (fptosi 32 (roundeven z)) natLt_8_32 i
      = (Ideal.fptosi 32 (Ideal.liftRound Ideal.roundHalfEven (z i))).truncate 8 := rfl

section Row
variable (v4 : FVec Ideal S1x1152 .f32) (v61 v71 : FVec Ideal S256x128 .f32) (v73 : Vec Ideal S256x1152 .bf16) (a : Fin 256)
  (h g : Fin 1152 → EReal) (hg : ∀ c, v4 (ix2 (0 : Fin 1) c) = g c) (h73 : ∀ c, v73 (ix2 a c) = h c)
  (hs : ∑ l : Fin 128, (v61 (ix2 a l) + v71 (ix2 a l)) = ∑ c, h c * h c)
include hg h73 hs

/-- The band's normalised rows: where the folded squares sum to the row's, the row's normalised elements. -/
theorem pay33_apply (c : Fin 1152) : k0_pay33 v4 v61 v71 v73 (ix2 a c) = Spec.normAt h g c := by
  unfold k0_pay33
  simp only [shapeCast_self]
  rw [mulf_apply, mulf_apply, extf_apply, h73, bcast_col_apply, broadcastTo_1b_ab_apply, hg]
  have e : (shapeCast S256x1 (multiReduction .add [1] S256 (addf v61 v71) 0x00000000#32 reduces_S256x128_S256 (.inl rfl) rfl)
      shapeCasts_S256_S256x1) (ix2 a (0 : Fin 1)) = ∑ c, h c * h c := by
    rw [shapeCast_a_a1_apply]
    refine (Ideal.multiReduction_add_single _ _ _ _ _ _).trans ?_
    refine Eq.trans (Finset.sum_congr rfl fun l _ => ?_) hs
    exact congrArg (addf v61 v71) (lift_row128 a l)
  show h c * Ideal.rsqrt (Ideal.div (shapeCast S256x1 _ _ (ix2 a (0 : Fin 1))) _ + _) * g c = _
  rw [e]
  rfl

/-- The band's scales. -/
theorem pay34_apply : k0_pay34 v4 v61 v71 v73 (ix2 a (0 : Fin 1)) = Spec.rowScale h g := by
  unfold k0_pay34
  have e : (shapeCast S256x1 (multiReduction .maximumf [1] S256 (absf (k0_pay33 v4 v61 v71 v73)) 0xFF800000#32 reduces_S256x1152_S256 (.inl rfl) rfl)
      shapeCasts_S256_S256x1) (ix2 a (0 : Fin 1)) = Spec.amax (Spec.normAt h g) := by
    rw [shapeCast_a_a1_apply]
    refine (Ideal.multiReduction_maximumf_single _ _ _ _ _ _).trans ?_
    unfold Spec.amax
    refine congrArg (Finset.fold max _ · _) (funext fun k => ?_)
    refine (congrArg (absf (k0_pay33 v4 v61 v71 v73)) (lift_row1152 a k)).trans ?_
    exact congrArg (fun z : EReal => max z (-z)) (pay33_apply v4 v61 v71 v73 a h g hg h73 hs k)
  simp only [select_apply, cmpf_apply, broadcast_apply, divf_apply]
  rw [e]
  rfl

/-- The band's codes. -/
theorem pay35_apply (c : Fin 1152) : k0_pay35 v4 v61 v71 v73 (ix2 a c) = Spec.rowCode h g c := by
  unfold k0_pay35
  refine (code_apply _ _).trans ?_
  refine Eq.trans ?_ (Spec.codeOf_clip _)
  simp only [minimumf_apply, maximumf_apply, broadcast_apply, divf_apply]
  rw [bcast_col_apply, pay33_apply v4 v61 v71 v73 a h g hg h73 hs, pay34_apply v4 v61 v71 v73 a h g hg h73 hs]
  rfl

end Row

end Cert.KernelIdeal.Value
-- ==== Proof.Block.lean ====
/-
  What one grid point leaves in its output blocks, at the exact values: the hidden rows of its 1024 rows, their codes
  and their scales, as functions of the blocks of activations, residual and gamma and of the weights in scratch.
-/
module

public import proofs.«01_k».proof.Proof.Tile
public import Idealize.ShloMosaic.Lib.Pipeline.ReadBack
public import Idealize.ShloMosaic.Lib.Pipeline.ValueKit.Geometry

@[expose] public section
noncomputable section
open Idealize.ShloMosaic Idealize.ShloMosaic.TcCoe Idealize.SL.Sem
open Idealize.ShloMosaic.ValueIdx Idealize.ShloMosaic.ValueKit

namespace Cert.KernelIdeal.Value
open Cert.KernelIdeal Cert.KernelIdeal.Gen

/-- The reader of the contents `X`. -/
abbrev ldR {s : Shape} {e : EltTy} (X : Vec Ideal s e) : Reader Ideal s e := fun r => View.ld X r

/-- An argument window's reader reads its contents. -/
theorem rdOf_eq {s : Shape} {e : EltTy} (arg : Memref sig .tc .vmem s e) (harg : arg.IsWhole) (x : Vec Ideal s e) :
    rdOf arg harg x = ldR x := by
  funext r
  show View.readAt (Elt Ideal) arg.view r.toLoadRect (harg.unread x) = _
  rw [View.readAt_eq_ld, harg.read_unread]

/-- A buffer's reader after stores reads what they left. -/
theorem rdCov_eq {s : Shape} {e : EltTy} (arg : Memref sig .tc .vmem s e) (L : List (View.Piece (Elt Ideal) s e)) :
    rdCov arg L = ldR (View.canon L) := by
  funext r
  exact View.readCov_eq_canon' arg.view L r.toLoadRect

/-- Row `a + i` of 1024. -/
def rowAt (a : ℕ) (ha : a + 256 ≤ 1024) (i : Fin 256) : Fin 1024 := ⟨a + i.val, by omega⟩
/-- Column `b + j` of 1152. -/
def colAt (b : ℕ) (hb : b + 256 ≤ 1152) (j : Fin 256) : Fin 1152 := ⟨b + j.val, by omega⟩
/-- Column `1024 + j` of 1152. -/
def colTail (j : Fin 128) : Fin 1152 := ⟨1024 + j.val, by omega⟩

section Arr
variable (X : Vec Ideal S1024x1024 .bf16) (W R : Vec Ideal S1024x1152 .bf16) (g : Vec Ideal S1x1152 .f32)

/-- Row `r` of the hidden rows of a block. -/
def hRow (r : Fin 1024) (c : Fin 1152) : EReal := Spec.hAt (fun k => X (ix2 r k)) (fun k => W (ix2 k c)) (R (ix2 r c))

/-- The block's hidden rows. -/
def hArr : Vec Ideal S1024x1152 .bf16 := fun y => hRow X W R (y 0) (y 1)

/-- Gamma as a function of the column. -/
def gFn (c : Fin 1152) : EReal := g (ix2 (0 : Fin 1) c)

/-- The block's codes. -/
def cArr : Vec Ideal S1024x1152 .i8 := fun y => Spec.rowCode (hRow X W R (y 0)) (gFn g) (y 1)

/-- The block's scales. -/
def sArr : Vec Ideal S1024x1 .f32 := fun y => Spec.rowScale (hRow X W R (y 0)) (gFn g)

section Band
variable (a : ℕ) (ha : a + 256 ≤ 1024)

/-- The band's activations at an element. -/
theorem xBand_apply (i : Fin 256) (k : Fin 1024) : xBand (ldR X) a ha (ix2 i k) = X (ix2 (rowAt a ha i) k) :=
  View.ld_unit_apply_of X _ _ _ (ix2 i k) (ix2 (rowAt a ha i) k) fun ax => by
    match ax with
    | ⟨0, _⟩ => rfl
    | ⟨1, _⟩ => exact (Nat.zero_add _).symm

/-- A column strip of the weights at an element. -/
theorem wCols_apply (b : ℕ) (hb : b + 256 ≤ 1152) (k : Fin 1024) (j : Fin 256) :
    wCols (ldR W) b hb (ix2 k j) = W (ix2 k (colAt b hb j)) :=
  View.ld_unit_apply_of W _ _ _ (ix2 k j) (ix2 k (colAt b hb j)) fun ax => by
    match ax with
    | ⟨0, _⟩ => exact (Nat.zero_add _).symm
    | ⟨1, _⟩ => rfl

/-- The last strip of the weights at an element. -/
theorem wTail_apply (k : Fin 1024) (j : Fin 128) : wTail (ldR W) (ix2 k j) = W (ix2 k (colTail j)) :=
  View.ld_unit_apply_of W _ _ _ (ix2 k j) (ix2 k (colTail j)) fun ax => by
    match ax with
    | ⟨0, _⟩ => exact (Nat.zero_add _).symm
    | ⟨1, _⟩ => rfl

/-- A residual tile at an element. -/
theorem rTile_apply (b : ℕ) (hb : b + 256 ≤ 1152) (i j : Fin 256) :
    rTile (ldR R) a b ha hb (ix2 i j) = R (ix2 (rowAt a ha i) (colAt b hb j)) :=
  View.ld_unit_apply_of R _ _ _ (ix2 i j) (ix2 (rowAt a ha i) (colAt b hb j)) fun ax => by
    match ax with
    | ⟨0, _⟩ => rfl
    | ⟨1, _⟩ => rfl

/-- The residual's narrow tile at an element. -/
theorem rTail_apply (i : Fin 256) (j : Fin 128) : rTail (ldR R) a ha (ix2 i j) = R (ix2 (rowAt a ha i) (colTail j)) :=
  View.ld_unit_apply_of R _ _ _ (ix2 i j) (ix2 (rowAt a ha i) (colTail j)) fun ax => by
    match ax with
    | ⟨0, _⟩ => rfl
    | ⟨1, _⟩ => rfl

/-- A wide tile's payload is the block's hidden elements. -/
theorem hTile_apply (b : ℕ) (hb : b + 256 ≤ 1152) (i j : Fin 256) :
    k0_pay25 (xBand (ldR X) a ha) (wCols (ldR W) b hb) (rTile (ldR R) a b ha hb) (ix2 i j)
      = hRow X W R (rowAt a ha i) (colAt b hb j) := by
  rw [pay25_apply, rTile_apply]
  simp only [xBand_apply, wCols_apply]
  rfl

/-- The narrow tile's payload is the block's hidden elements. -/
theorem hTailTile_apply (i : Fin 256) (j : Fin 128) :
    k0_pay31 (k0_pay24 (xBand (ldR X) a ha)) (wTail (ldR W)) (rTail (ldR R) a ha) (ix2 i j)
      = hRow X W R (rowAt a ha i) (colTail j) := by
  rw [pay31_apply, rTail_apply]
  simp only [xBand_apply, wTail_apply]
  rfl

/-- The band's folded squares sum, over the lanes, to the row's sum of squares. -/
theorem parts_sum (i : Fin 256) :
    ∑ l : Fin 128, (part8 (ldR X) (ldR W) (ldR R) a ha (ix2 i l) + part1 (ldR X) (ldR W) (ldR R) a ha (ix2 i l))
      = ∑ c, hRow X W R (rowAt a ha i) c * hRow X W R (rowAt a ha i) c := by
  rw [← Spec.sum_lanes]
  refine Finset.sum_congr rfl fun l _ => ?_
  unfold part8 part1
  rw [pay30_apply, pay27_apply, pay32_apply]
  simp only [hTile_apply, hTailTile_apply]
  have e (b : ℕ) (hb : b + 256 ≤ 1152) (q : Fin 9) (hq : b = 128 * q.val) : colAt b hb (lane0 l) = Spec.col q l :=
    Fin.ext (by simp [colAt, lane0, Spec.col, hq])
  have e' (b : ℕ) (hb : b + 256 ≤ 1152) (q : Fin 9) (hq : b + 128 = 128 * q.val) : colAt b hb (lane1 l) = Spec.col q l :=
    Fin.ext (by simp [colAt, lane1, Spec.col]; omega)
  have et : colTail l = Spec.col 8 l := Fin.ext (by simp [colTail, Spec.col])
  rw [e 0 _ 0 rfl, e' 0 _ 1 rfl, e 256 _ 2 rfl, e' 256 _ 3 rfl, e 512 _ 4 rfl, e' 512 _ 5 rfl, e 768 _ 6 rfl, e' 768 _ 7 rfl, et]

/-- A wide tile's piece is the block's hidden rows there. -/
theorem hPiece_of (b : ℕ) (hb : b + 256 ≤ 1152) (x : (tile a b ha hb).shape.Idx) :
    (hPiece (ldR X) (ldR W) (ldR R) a b ha hb).2 x = hArr X W R ((tile a b ha hb).emb x) := by
  have h0 : ((tile a b ha hb).emb x) 0 = rowAt a ha (x 0) := Fin.ext (rect_emb_unit_val _ _ _ x 0)
  have h1 : ((tile a b ha hb).emb x) 1 = colAt b hb (x 1) := Fin.ext (rect_emb_unit_val _ _ _ x 1)
  refine Eq.trans ?_ ((hTile_apply X W R a ha b hb (x 0) (x 1)).trans (congrArg₂ (hRow X W R) h0.symm h1.symm))
  exact congrArg (k0_pay25 (xBand (ldR X) a ha) (wCols (ldR W) b hb) (rTile (ldR R) a b ha hb)) (eq_ix2 x)

/-- The narrow tile's piece is the block's hidden rows there. -/
theorem hTail_of (x : (tailTile a ha).shape.Idx) :
    (hTail (ldR X) (ldR W) (ldR R) a ha).2 x = hArr X W R ((tailTile a ha).emb x) := by
  have h0 : ((tailTile a ha).emb x) 0 = rowAt a ha (x 0) := Fin.ext (rect_emb_unit_val _ _ _ x 0)
  have h1 : ((tailTile a ha).emb x) 1 = colTail (x 1) := Fin.ext (rect_emb_unit_val _ _ _ x 1)
  refine Eq.trans ?_ ((hTailTile_apply X W R a ha (x 0) (x 1)).trans (congrArg₂ (hRow X W R) h0.symm h1.symm))
  exact congrArg (k0_pay31 (k0_pay24 (xBand (ldR X) a ha)) (wTail (ldR W)) (rTail (ldR R) a ha)) (eq_ix2 x)

/-- All five pieces of a band are. -/
theorem hBand_of : View.PiecesOf (hArr X W R) (hBand (ldR X) (ldR W) (ldR R) a ha) :=
  ⟨hTail_of X W R a ha, hPiece_of X W R a ha 768 _, hPiece_of X W R a ha 512 _, hPiece_of X W R a ha 256 _, hPiece_of X W R a ha 0 _, trivial⟩

/-- A column in a wide tile's range puts the element in the tile. -/
theorem mem_tile (b : ℕ) (hb : b + 256 ≤ 1152) (y : S1024x1152.Idx) (h0 : a ≤ (y 0).val) (h0' : (y 0).val < a + 256)
    (h1 : b ≤ (y 1).val) (h1' : (y 1).val < b + 256) : y ∈ (tile a b ha hb).set := by
  unfold tile
  rw [Rect.mem_set_unit]
  intro ax
  match ax with
  | ⟨0, _⟩ => exact ⟨h0, h0'⟩
  | ⟨1, _⟩ => exact ⟨h1, h1'⟩

/-- Five pieces on a band's five tiles cover its rows. -/
theorem cover5 (p4 p3 p2 p1 p0 : View.Piece (Elt Ideal) S1024x1152 .bf16) (e4 : p4.1 = tailTile a ha) (e3 : p3.1 = tile a 768 ha (by decide))
    (e2 : p2.1 = tile a 512 ha (by decide)) (e1 : p1.1 = tile a 256 ha (by decide)) (e0 : p0.1 = tile a 0 ha (by decide))
    (y : S1024x1152.Idx) (h0 : a ≤ (y 0).val) (h0' : (y 0).val < a + 256) : ∃ p ∈ [p4, p3, p2, p1, p0], y ∈ p.1.set := by
  have hy : (y 1).val < 1152 := (y 1).isLt
  by_cases c1 : (y 1).val < 256
  · exact ⟨p0, by simp, e0 ▸ mem_tile a ha 0 (by decide) y h0 h0' (Nat.zero_le _) (by omega)⟩
  by_cases c2 : (y 1).val < 512
  · exact ⟨p1, by simp, e1 ▸ mem_tile a ha 256 (by decide) y h0 h0' (by omega) (by omega)⟩
  by_cases c3 : (y 1).val < 768
  · exact ⟨p2, by simp, e2 ▸ mem_tile a ha 512 (by decide) y h0 h0' (by omega) (by omega)⟩
  by_cases c4 : (y 1).val < 1024
  · exact ⟨p3, by simp, e3 ▸ mem_tile a ha 768 (by decide) y h0 h0' (by omega) (by omega)⟩
  refine ⟨p4, by simp, ?_⟩
  rw [e4]
  unfold tailTile
  rw [Rect.mem_set_unit]
  intro ax
  match ax with
  | ⟨0, _⟩ => exact ⟨h0, h0'⟩
  | ⟨1, _⟩ => exact ⟨Nat.not_lt.mp c4, hy⟩

/-- The five pieces of a band cover its rows. -/
theorem hBand_cover (y : S1024x1152.Idx) (h0 : a ≤ (y 0).val) (h0' : (y 0).val < a + 256) :
    ∃ p ∈ hBand (ldR X) (ldR W) (ldR R) a ha, y ∈ p.1.set :=
  cover5 a ha _ _ _ _ _ rfl rfl rfl rfl rfl y h0 h0'

/-- Over any earlier stores, a band's pieces leave the block's hidden rows in its rows. -/
theorem canon_band (L : List (View.Piece (Elt Ideal) S1024x1152 .bf16)) (y : S1024x1152.Idx) (h0 : a ≤ (y 0).val) (h0' : (y 0).val < a + 256) :
    View.canon (hBand (ldR X) (ldR W) (ldR R) a ha ++ L) y = hArr X W R y :=
  View.canon_append_of_piecesOf _ L _ (hBand_of X W R a ha) y (hBand_cover X W R a ha y h0 h0')

/-- So reading the band back after them gives the block's hidden rows. -/
theorem read_band (L : List (View.Piece (Elt Ideal) S1024x1152 .bf16)) (i : Fin 256) (c : Fin 1152) :
    View.ld (View.canon (hBand (ldR X) (ldR W) (ldR R) a ha ++ L)) (wide a ha) (ix2 i c) = hRow X W R (rowAt a ha i) c := by
  refine (View.ld_unit_apply_of _ _ _ _ (ix2 i c) (ix2 (rowAt a ha i) c) fun ax => ?_).trans ?_
  · match ax with
    | ⟨0, _⟩ => rfl
    | ⟨1, _⟩ => exact (Nat.zero_add _).symm
  · exact canon_band X W R a ha L _ (Nat.le_add_right a i.val) (Nat.add_lt_add_left i.isLt a)

variable (L : List (View.Piece (Elt Ideal) S1024x1152 .bf16))

/-- Gamma as the normalisation's payload holds it. -/
theorem pay23_apply (c : Fin 1152) : k0_pay23 g (ix2 (0 : Fin 1) c) = gFn g c := by
  unfold k0_pay23 gFn
  simp only [shapeCast_self]

/-- The band's scales' payload at a row. -/
theorem sPay_apply (i : Fin 256) :
    k0_pay34 (k0_pay23 g) (part8 (ldR X) (ldR W) (ldR R) a ha) (part1 (ldR X) (ldR W) (ldR R) a ha)
        (View.ld (View.canon (hBand (ldR X) (ldR W) (ldR R) a ha ++ L)) (wide a ha)) (ix2 i (0 : Fin 1))
      = Spec.rowScale (hRow X W R (rowAt a ha i)) (gFn g) :=
  pay34_apply _ _ _ _ i _ _ (pay23_apply g) (read_band X W R a ha L i) (parts_sum X W R a ha i)

/-- The band's codes' payload at an element. -/
theorem cPay_apply (i : Fin 256) (c : Fin 1152) :
    k0_pay35 (k0_pay23 g) (part8 (ldR X) (ldR W) (ldR R) a ha) (part1 (ldR X) (ldR W) (ldR R) a ha)
        (View.ld (View.canon (hBand (ldR X) (ldR W) (ldR R) a ha ++ L)) (wide a ha)) (ix2 i c)
      = Spec.rowCode (hRow X W R (rowAt a ha i)) (gFn g) c :=
  pay35_apply _ _ _ _ i _ _ (pay23_apply g) (read_band X W R a ha L i) (parts_sum X W R a ha i) c

/-- An index of a one-column array is its row and column zero. -/
theorem eq_ix2_one (z : S256x1.Idx) : z = ix2 (z 0) (0 : Fin 1) :=
  (eq_ix2 z).trans (congrArg (fun j : Fin 1 => ix2 (z 0) j) (Fin.ext (Nat.lt_one_iff.mp (z 1).isLt)))

/-- The band's scales' piece is the block's scales there. -/
theorem sPiece_of (x : (thin a ha).shape.Idx) :
    (sPiece g (ldR X) (ldR W) (ldR R) a ha (View.ld (View.canon (hBand (ldR X) (ldR W) (ldR R) a ha ++ L)) (wide a ha))).2 x
      = sArr X W R g ((thin a ha).emb x) := by
  have h0 : ((thin a ha).emb x) 0 = rowAt a ha (x 0) := Fin.ext (rect_emb_unit_val _ _ _ x 0)
  refine Eq.trans ?_ ((sPay_apply X W R g a ha L (x 0)).trans (congrArg (fun r => Spec.rowScale (hRow X W R r) (gFn g)) h0.symm))
  generalize hf : k0_pay34 (k0_pay23 g) (part8 (ldR X) (ldR W) (ldR R) a ha) (part1 (ldR X) (ldR W) (ldR R) a ha)
    (View.ld (View.canon (hBand (ldR X) (ldR W) (ldR R) a ha ++ L)) (wide a ha)) = f
  have hx : f x = f (ix2 (x 0) (0 : Fin 1)) := congrArg f (eq_ix2_one x)
  refine Eq.trans ?_ hx
  rw [← hf]
  unfold sPiece
  with_reducible rfl

/-- The band's codes' piece is the block's codes there. -/
theorem cPiece_of (x : (wide a ha).shape.Idx) :
    (cPiece g (ldR X) (ldR W) (ldR R) a ha (View.ld (View.canon (hBand (ldR X) (ldR W) (ldR R) a ha ++ L)) (wide a ha))).2 x
      = cArr X W R g ((wide a ha).emb x) := by
  have h0 : ((wide a ha).emb x) 0 = rowAt a ha (x 0) := Fin.ext (rect_emb_unit_val _ _ _ x 0)
  have h1 : ((wide a ha).emb x) 1 = x 1 := Fin.ext ((rect_emb_unit_val _ _ _ x 1).trans (Nat.zero_add _))
  refine Eq.trans ?_ ((cPay_apply X W R g a ha L (x 0) (x 1)).trans
    (congrArg₂ (fun r c => Spec.rowCode (hRow X W R r) (gFn g) c) h0.symm h1.symm))
  exact congrArg (k0_pay35 (k0_pay23 g) (part8 (ldR X) (ldR W) (ldR R) a ha) (part1 (ldR X) (ldR W) (ldR R) a ha)
    (View.ld (View.canon (hBand (ldR X) (ldR W) (ldR R) a ha ++ L)) (wide a ha))) (eq_ix2 x)

end Band

/-- All the hidden rows' pieces leave the block's hidden rows. -/
theorem canon_h : View.canon (hList3 (ldR X) (ldR W) (ldR R)) = hArr X W R := by
  funext y
  have hy : (y 0).val < 1024 := (y 0).isLt
  have hP : View.PiecesOf (hArr X W R) (hList3 (ldR X) (ldR W) (ldR R)) := by
    have h3 := hBand_of X W R 768 (by decide)
    have h2 := hBand_of X W R 512 (by decide)
    have h1 := hBand_of X W R 256 (by decide)
    have h0 := hBand_of X W R 0 (by decide)
    exact ⟨h3.1, h3.2.1, h3.2.2.1, h3.2.2.2.1, h3.2.2.2.2.1, h2.1, h2.2.1, h2.2.2.1, h2.2.2.2.1, h2.2.2.2.2.1,
      h1.1, h1.2.1, h1.2.2.1, h1.2.2.2.1, h1.2.2.2.2.1, h0⟩
  have hc : ∃ p ∈ hList3 (ldR X) (ldR W) (ldR R), y ∈ p.1.set := by
    unfold hList3 hList2 hList1 hList0
    simp only [List.mem_append]
    by_cases c1 : (y 0).val < 256
    · obtain ⟨p, hp, h⟩ := hBand_cover X W R 0 (by decide) y (Nat.zero_le _) (by omega)
      exact ⟨p, .inr (.inr (.inr hp)), h⟩
    by_cases c2 : (y 0).val < 512
    · obtain ⟨p, hp, h⟩ := hBand_cover X W R 256 (by decide) y (by omega) (by omega)
      exact ⟨p, .inr (.inr (.inl hp)), h⟩
    by_cases c3 : (y 0).val < 768
    · obtain ⟨p, hp, h⟩ := hBand_cover X W R 512 (by decide) y (by omega) (by omega)
      exact ⟨p, .inr (.inl hp), h⟩
    · obtain ⟨p, hp, h⟩ := hBand_cover X W R 768 (by decide) y (by omega) (by omega)
      exact ⟨p, .inl hp, h⟩
  have := View.canon_append_of_piecesOf (hArr X W R) [] _ hP y hc
  rwa [List.append_nil] at this

/-- A row in the band's range puts an element in the band's whole-width tile. -/
theorem mem_wide (a : ℕ) (ha : a + 256 ≤ 1024) (y : S1024x1152.Idx) (h0 : a ≤ (y 0).val) (h0' : (y 0).val < a + 256) : y ∈ (wide a ha).set := by
  unfold wide
  rw [Rect.mem_set_unit]
  intro ax
  match ax with
  | ⟨0, _⟩ => exact ⟨h0, h0'⟩
  | ⟨1, _⟩ => exact ⟨Nat.zero_le _, by show (y 1).val < 0 + 1152; have := (y 1).isLt; exact (Nat.zero_add 1152).symm ▸ this⟩

/-- … and in the band's scales' rectangle. -/
theorem mem_thin (a : ℕ) (ha : a + 256 ≤ 1024) (y : S1024x1.Idx) (h0 : a ≤ (y 0).val) (h0' : (y 0).val < a + 256) : y ∈ (thin a ha).set := by
  unfold thin
  rw [Rect.mem_set_unit]
  intro ax
  match ax with
  | ⟨0, _⟩ => exact ⟨h0, h0'⟩
  | ⟨1, _⟩ => exact ⟨Nat.zero_le _, by show (y 1).val < 0 + 1; have := (y 1).isLt; exact (Nat.zero_add 1).symm ▸ this⟩

/-- Four pieces on the four bands' wide rectangles cover the block. -/
theorem cover4_wide (p3 p2 p1 p0 : View.Piece (Elt Ideal) S1024x1152 .i8) (e3 : p3.1 = wide 768 (by decide)) (e2 : p2.1 = wide 512 (by decide))
    (e1 : p1.1 = wide 256 (by decide)) (e0 : p0.1 = wide 0 (by decide)) (y : S1024x1152.Idx) : ∃ p ∈ [p3, p2, p1, p0], y ∈ p.1.set := by
  have hy : (y 0).val < 1024 := (y 0).isLt
  by_cases c1 : (y 0).val < 256
  · exact ⟨p0, by simp, e0 ▸ mem_wide 0 (by decide) y (Nat.zero_le _) (by omega)⟩
  by_cases c2 : (y 0).val < 512
  · exact ⟨p1, by simp, e1 ▸ mem_wide 256 (by decide) y (by omega) (by omega)⟩
  by_cases c3 : (y 0).val < 768
  · exact ⟨p2, by simp, e2 ▸ mem_wide 512 (by decide) y (by omega) (by omega)⟩
  · exact ⟨p3, by simp, e3 ▸ mem_wide 768 (by decide) y (by omega) (by omega)⟩

/-- Four pieces on the four bands' thin rectangles cover the block. -/
theorem cover4_thin (p3 p2 p1 p0 : View.Piece (Elt Ideal) S1024x1 .f32) (e3 : p3.1 = thin 768 (by decide)) (e2 : p2.1 = thin 512 (by decide))
    (e1 : p1.1 = thin 256 (by decide)) (e0 : p0.1 = thin 0 (by decide)) (y : S1024x1.Idx) : ∃ p ∈ [p3, p2, p1, p0], y ∈ p.1.set := by
  have hy : (y 0).val < 1024 := (y 0).isLt
  by_cases c1 : (y 0).val < 256
  · exact ⟨p0, by simp, e0 ▸ mem_thin 0 (by decide) y (Nat.zero_le _) (by omega)⟩
  by_cases c2 : (y 0).val < 512
  · exact ⟨p1, by simp, e1 ▸ mem_thin 256 (by decide) y (by omega) (by omega)⟩
  by_cases c3 : (y 0).val < 768
  · exact ⟨p2, by simp, e2 ▸ mem_thin 512 (by decide) y (by omega) (by omega)⟩
  · exact ⟨p3, by simp, e3 ▸ mem_thin 768 (by decide) y (by omega) (by omega)⟩

/-- All the codes' pieces leave the block's codes. -/
theorem canon_c : View.canon (cList g (ldR X) (ldR W) (ldR R) fun L => ldR (View.canon L)) = cArr X W R g := by
  funext y
  have hP : View.PiecesOf (cArr X W R g) (cList g (ldR X) (ldR W) (ldR R) fun L => ldR (View.canon L)) := by
    have h0 := cPiece_of X W R g 0 (by decide) []
    rw [List.append_nil] at h0
    exact ⟨cPiece_of X W R g 768 (by decide) (hList2 _ _ _), cPiece_of X W R g 512 (by decide) (hList1 _ _ _),
      cPiece_of X W R g 256 (by decide) (hList0 _ _ _), h0, trivial⟩
  have := View.canon_append_of_piecesOf (cArr X W R g) [] _ hP y (cover4_wide _ _ _ _ rfl rfl rfl rfl y)
  rwa [List.append_nil] at this

/-- All the scales' pieces leave the block's scales. -/
theorem canon_s : View.canon (sList g (ldR X) (ldR W) (ldR R) fun L => ldR (View.canon L)) = sArr X W R g := by
  funext y
  have hP : View.PiecesOf (sArr X W R g) (sList g (ldR X) (ldR W) (ldR R) fun L => ldR (View.canon L)) := by
    have h0 := sPiece_of X W R g 0 (by decide) []
    rw [List.append_nil] at h0
    exact ⟨sPiece_of X W R g 768 (by decide) (hList2 _ _ _), sPiece_of X W R g 512 (by decide) (hList1 _ _ _),
      sPiece_of X W R g 256 (by decide) (hList0 _ _ _), h0, trivial⟩
  have := View.canon_append_of_piecesOf (sArr X W R g) [] _ hP y (cover4_thin _ _ _ _ rfl rfl rfl rfl y)
  rwa [List.append_nil] at this

end Arr

end Cert.KernelIdeal.Value
-- ==== Proof.Weights.lean ====
/-
  The weights the first grid point leaves in scratch, at the exact values: each row is a four-bit field of a packed row,
  times its group's scale.
-/
module

public import proofs.«01_k».proof.Proof.Tile
public import Idealize.ShloMosaic.Lib.Pipeline.ReadBack
public import Idealize.ShloMosaic.Lib.Pipeline.ValueKit.Geometry

@[expose] public section
noncomputable section
open Idealize.ShloMosaic Idealize.ShloMosaic.TcCoe Idealize.SL.Sem
open Idealize.ShloMosaic.ValueIdx Idealize.ShloMosaic.ValueKit

namespace Cert.KernelIdeal.Value
open Cert.KernelIdeal Cert.KernelIdeal.Gen

/-- The weights as the kernel multiplies by them: row `k` is field `k % 2` of packed row `k / 2`, times the scale of group `k / 128`. -/
def wArr (P : Vec Ideal S512x1152 .i8) (S : Vec Ideal S8x1152 .f32) : Vec Ideal S1024x1152 .bf16 := fun y =>
  Spec.nib ((y 0).val % 2) (P (ix2 (⟨(y 0).val / 2, by have h : (y 0).val < 1024 := (y 0).isLt; omega⟩ : Fin 512) (y 1)))
    * S (ix2 (⟨(y 0).val / 128, by have h : (y 0).val < 1024 := (y 0).isLt; omega⟩ : Fin 8) (y 1))

/-- Two 64-row arrays interleaved by rows, at an element. -/
theorem interleave_apply {α : Type} (lo hi : S64x1152.Idx → α) (h : S128x1152.Bitcasts 16 S64x1152 32) (i : Fin 128) (c : Fin 1152) :
    interleaveRows S128x1152 lo hi h (ix2 i c)
      = if i.val % 2 = 0 then lo (ix2 (⟨i.val / 2, by omega⟩ : Fin 64) c) else hi (ix2 (⟨i.val / 2, by omega⟩ : Fin 64) c) := by
  unfold interleaveRows
  refine congrArg₂ (fun u v : S64x1152.Idx => if i.val % 2 = 0 then lo u else hi v) ?_ ?_ <;>
  · funext ax
    match ax with
    | ⟨0, _⟩ => rfl
    | ⟨1, _⟩ => rfl

/-- One group's weights at an element. -/
theorem deq_apply (g : ℕ) (hg : Shape.Slices S8x1152 ![g, 0] S1x1152) (hg8 : g < 8) (s : Vec Ideal S8x1152 .f32) (p : Vec Ideal S64x1152 .i8)
    (i : Fin 128) (c : Fin 1152) :
    deq g hg s p (ix2 i c) = Spec.nib (i.val % 2) (p (ix2 (⟨i.val / 2, by omega⟩ : Fin 64) c)) * s (ix2 (⟨g, hg8⟩ : Fin 8) c) := by
  unfold deq
  rw [shapeCast_self, interleave_apply]
  have hs (q : Fin 64) : (broadcastTo S64x1152 (extractStridedSlice S1x1152 ![g, 0] (k0_pay1 s) hg) broadcasts_S1x1152_S64x1152 : FVec Ideal S64x1152 .f32) (ix2 q c)
      = s (ix2 (⟨g, hg8⟩ : Fin 8) c) := by
    rw [broadcastTo_1b_ab_apply]
    refine (extractStridedSlice_apply _ _ hg (ix2 (0 : Fin 1) c) (ix2 (⟨g, hg8⟩ : Fin 8) c) fun ax => ?_).trans rfl
    match ax with
    | ⟨0, _⟩ => rfl
    | ⟨1, _⟩ => exact (Nat.zero_add _).symm
  by_cases h : i.val % 2 = 0
  · rw [if_pos h, h]
    refine congrArg₂ (fun u v : EReal => u * v) ?_ (hs _)
    exact congrArg (fun n : ℤ => ((n : ℝ) : EReal)) (Spec.lo_shifts _)
  · rw [if_neg h, show i.val % 2 = 1 by omega]
    refine congrArg₂ (fun u v : EReal => u * v) ?_ (hs _)
    exact congrArg (fun n : ℤ => ((n : ℝ) : EReal)) (Spec.hi_shifts _)

variable (P : Vec Ideal S512x1152 .i8) (S : Vec Ideal S8x1152 .f32)

/-- The packed rows from `b` at an element. -/
theorem pRows_apply (b : ℕ) (hb : b + 64 ≤ 512) (q : Fin 64) (c : Fin 1152) :
    pRows (fun r => View.ld P r) b hb (ix2 q c) = P (ix2 (⟨b + q.val, by omega⟩ : Fin 512) c) :=
  View.ld_unit_apply_of P _ _ _ (ix2 q c) (ix2 (⟨b + q.val, by omega⟩ : Fin 512) c) fun ax => by
    match ax with
    | ⟨0, _⟩ => rfl
    | ⟨1, _⟩ => exact (Nat.zero_add _).symm

/-- A group's piece is the weights there. -/
theorem dPiece_of (g a b : ℕ) (hg : Shape.Slices S8x1152 ![g, 0] S1x1152) (ha : a + 128 ≤ 1024) (hb : b + 64 ≤ 512) (hag : a = 128 * g)
    (hbg : b = 64 * g) (x : (dPiece S (fun r => View.ld P r) g a b hg ha hb).1.shape.Idx) :
    (dPiece S (fun r => View.ld P r) g a b hg ha hb).2 x = wArr P S ((dPiece S (fun r => View.ld P r) g a b hg ha hb).1.emb x) := by
  have h8 : g < 8 := by omega
  have key (i : Fin 128) (c : Fin 1152) : deq g hg S (pRows (fun r => View.ld P r) b hb) (ix2 i c)
      = wArr P S (ix2 (⟨a + i.val, by omega⟩ : Fin 1024) c) := by
    rw [deq_apply g hg h8, pRows_apply]
    have e0 : (a + i.val) % 2 = i.val % 2 := by omega
    have e1 : (a + i.val) / 2 = b + i.val / 2 := by omega
    have e2 : (a + i.val) / 128 = g := by omega
    unfold wArr
    refine congrArg₂ (fun u v : EReal => u * v) ?_ ?_
    · refine congrArg₂ Spec.nib e0.symm (congrArg P (congrArg (fun r : Fin 512 => ix2 r c) (Fin.ext e1.symm)))
    · exact congrArg S (congrArg (fun r : Fin 8 => ix2 r c) (Fin.ext e2.symm))
  have hx : ((dPiece S (fun r => View.ld P r) g a b hg ha hb).1.emb x) = ix2 (⟨a + (x 0).val, by have h : (x 0).val < 128 := (x 0).isLt; omega⟩ : Fin 1024) (x 1) := by
    funext ax
    match ax with
    | ⟨0, _⟩ => exact Fin.ext (rect_emb_unit_val (s := S1024x1152) ![a, 0] S128x1152.size (by intro i; fin_cases i <;> simp <;> omega) x 0)
    | ⟨1, _⟩ => exact Fin.ext ((rect_emb_unit_val (s := S1024x1152) ![a, 0] S128x1152.size (by intro i; fin_cases i <;> simp <;> omega) x 1).trans (Nat.zero_add _))
  rw [hx]
  refine Eq.trans ?_ (key (x 0) (x 1))
  exact congrArg (deq g hg S (pRows (fun r => View.ld P r) b hb)) (eq_ix2 x)

/-- The eight pieces cover the weights. -/
theorem dList_cover (y : S1024x1152.Idx) : ∃ p ∈ dList S (fun r => View.ld P r), y ∈ p.1.set :=
  View.cover_of_tiledL (dList S (fun r => View.ld P r)) S128x1152.size (by sl_kernel_rfl) y

/-- The first point's stores leave the weights in scratch. -/
theorem canon_w : View.canon (dList S (fun r => View.ld P r)) = wArr P S := by
  funext y
  have hP : View.PiecesOf (wArr P S) (dList S (fun r => View.ld P r)) :=
    ⟨dPiece_of P S 7 896 448 _ _ _ rfl rfl, dPiece_of P S 6 768 384 _ _ _ rfl rfl, dPiece_of P S 5 640 320 _ _ _ rfl rfl,
      dPiece_of P S 4 512 256 _ _ _ rfl rfl, dPiece_of P S 3 384 192 _ _ _ rfl rfl, dPiece_of P S 2 256 128 _ _ _ rfl rfl,
      dPiece_of P S 1 128 64 _ _ _ rfl rfl, dPiece_of P S 0 0 0 _ _ _ rfl rfl, trivial⟩
  have := View.canon_append_of_piecesOf (wArr P S) [] _ hP y (dList_cover P S y)
  rwa [List.append_nil] at this

end Cert.KernelIdeal.Value
-- ==== Proof.Cases.lean ====
/-
  The two cases of the grid: the first point dequantises the weights into scratch and then does what every other point
  does with the weights it finds there. Each case's output blocks and scratch in closed form.
-/
module

public import proofs.«01_k».proof.Proof.Block
public import proofs.«01_k».proof.Proof.Weights
public import proofs.«01_k».proof.Proof.Gen.KernelIdeal.Frame

@[expose] public section
noncomputable section
open Idealize.ShloMosaic Idealize.ShloMosaic.TcCoe Idealize.SL.Sem

namespace Cert.KernelIdeal.Value
open Cert.KernelIdeal Cert.KernelIdeal.Gen

variable (c : Dev nD) (i : grid0.Coords) (arg1 : Memref sig .tc .vmem S1024x1024 .bf16) (harg1 : arg1.IsWhole)
  (arg2 : Memref sig .tc .vmem S512x1152 .i8) (harg2 : arg2.IsWhole) (arg3 : Memref sig .tc .vmem S8x1152 .f32) (harg3 : arg3.IsWhole)
  (arg4 : Memref sig .tc .vmem S1024x1152 .bf16) (harg4 : arg4.IsWhole) (arg5 : Memref sig .tc .vmem S1x1152 .f32) (harg5 : arg5.IsWhole)
  (arg6 : Memref sig .tc .vmem S1024x1152 .bf16) (harg6 : arg6.IsWhole) (arg7 : Memref sig .tc .vmem S1024x1152 .i8) (harg7 : arg7.IsWhole)
  (arg8 : Memref sig .tc .vmem S1024x1 .f32) (harg8 : arg8.IsWhole) (arg9 : Memref sig .tc .vmem S1024x1152 .bf16) (harg9 : arg9.IsWhole)
  (x0 : Vec Ideal S1024x1024 .bf16) (x1 : Vec Ideal S512x1152 .i8) (x2 : Vec Ideal S8x1152 .f32) (x3 : Vec Ideal S1024x1152 .bf16)
  (x4 : Vec Ideal S1x1152 .f32) (xs0 : Vec Ideal S1024x1152 .bf16)

/-- Zero offsets. -/
theorem hz : (![0, 0] : Fin 2 → Nat) = fun _ => 0 := funext fun a => by fin_cases a <;> rfl

/-- Reading gamma's whole window gives gamma. -/
theorem gAll_ldR : gAll (ldR x4) = x4 := View.ld_unit_zero (S := S1x1152) hz _ x4

/-- Reading the scales' whole window gives the scales. -/
theorem sAll_ldR : sAll (ldR x2) = x2 := View.ld_unit_zero (S := S8x1152) hz _ x2

/-- A buffer's readers after stores, all at once. -/
theorem rdCov_fun : (rdCov arg6 : List (View.Piece (Elt Ideal) S1024x1152 .bf16) → _) = fun L => ldR (View.canon L) :=
  funext fun L => rdCov_eq arg6 L

/-- Case A leaves the weights in scratch. -/
theorem soutA (hc0 : cond0_0 i) : sout0_A_0 c i arg1 harg1 arg2 harg2 arg3 harg3 arg4 harg4 arg5 harg5 arg6 harg6 arg7 harg7 arg8 harg8 arg9 harg9 hc0 x0 x1 x2 x3 x4 = wArr x1 x2 := by
  unfold sout0_A_0
  rw [View.read_writes_junk_eq_canon, runA_9, rdOf_eq, rdOf_eq, sAll_ldR]
  exact canon_w x1 x2

/-- Case A's hidden rows. -/
theorem outA_5 (hc0 : cond0_0 i) : out0_A_5 c i arg1 harg1 arg2 harg2 arg3 harg3 arg4 harg4 arg5 harg5 arg6 harg6 arg7 harg7 arg8 harg8 arg9 harg9 hc0 x0 x1 x2 x3 x4 = hArr x0 (wArr x1 x2) x3 := by
  unfold out0_A_5
  rw [View.read_writes_junk_eq_canon, runA_5]
  simp only [rdOf_eq, rdCov_eq, sAll_ldR]
  rw [← canon_w x1 x2]
  exact canon_h x0 _ x3

/-- Case A's codes. -/
theorem outA_6 (hc0 : cond0_0 i) : out0_A_6 c i arg1 harg1 arg2 harg2 arg3 harg3 arg4 harg4 arg5 harg5 arg6 harg6 arg7 harg7 arg8 harg8 arg9 harg9 hc0 x0 x1 x2 x3 x4 = cArr x0 (wArr x1 x2) x3 x4 := by
  unfold out0_A_6
  rw [View.read_writes_junk_eq_canon, runA_6, rdCov_fun arg6]
  simp only [rdOf_eq, rdCov_eq, sAll_ldR, gAll_ldR]
  rw [← canon_w x1 x2]
  exact canon_c x0 _ x3 x4

/-- Case A's scales. -/
theorem outA_7 (hc0 : cond0_0 i) : out0_A_7 c i arg1 harg1 arg2 harg2 arg3 harg3 arg4 harg4 arg5 harg5 arg6 harg6 arg7 harg7 arg8 harg8 arg9 harg9 hc0 x0 x1 x2 x3 x4 = sArr x0 (wArr x1 x2) x3 x4 := by
  unfold out0_A_7
  rw [View.read_writes_junk_eq_canon, runA_7, rdCov_fun arg6]
  simp only [rdOf_eq, rdCov_eq, sAll_ldR, gAll_ldR]
  rw [← canon_w x1 x2]
  exact canon_s x0 _ x3 x4

/-- Case B's hidden rows. -/
theorem outB_5 (hc0 : ¬cond0_0 i) : out0_B_5 c i arg1 harg1 arg2 harg2 arg3 harg3 arg4 harg4 arg5 harg5 arg6 harg6 arg7 harg7 arg8 harg8 arg9 harg9 hc0 x0 x1 x2 x3 x4 xs0 = hArr x0 xs0 x3 := by
  unfold out0_B_5
  rw [View.read_writes_junk_eq_canon, runB_5]
  simp only [rdOf_eq]
  exact canon_h x0 xs0 x3

/-- Case B's codes. -/
theorem outB_6 (hc0 : ¬cond0_0 i) : out0_B_6 c i arg1 harg1 arg2 harg2 arg3 harg3 arg4 harg4 arg5 harg5 arg6 harg6 arg7 harg7 arg8 harg8 arg9 harg9 hc0 x0 x1 x2 x3 x4 xs0 = cArr x0 xs0 x3 x4 := by
  unfold out0_B_6
  rw [View.read_writes_junk_eq_canon, runB_6, rdCov_fun arg6]
  simp only [rdOf_eq, gAll_ldR]
  exact canon_c x0 xs0 x3 x4

/-- Case B's scales. -/
theorem outB_7 (hc0 : ¬cond0_0 i) : out0_B_7 c i arg1 harg1 arg2 harg2 arg3 harg3 arg4 harg4 arg5 harg5 arg6 harg6 arg7 harg7 arg8 harg8 arg9 harg9 hc0 x0 x1 x2 x3 x4 xs0 = sArr x0 xs0 x3 x4 := by
  unfold out0_B_7
  rw [View.read_writes_junk_eq_canon, runB_7, rdCov_fun arg6]
  simp only [rdOf_eq, gAll_ldR]
  exact canon_s x0 xs0 x3 x4

end Cert.KernelIdeal.Value
-- ==== Proof.Entry.lean ====
/-
  What the kernel's region finds: activations and residual with batch and position merged into 24576 rows, gamma as one
  row, and the blocks of them a grid point works on.
-/
module

public import proofs.«01_k».proof.Proof.Cases

@[expose] public section
noncomputable section
open Idealize.ShloMosaic Idealize.ShloMosaic.TcCoe Idealize.SL.Sem
open Idealize.ShloMosaic.ValueIdx

namespace Cert.KernelIdeal.Value
open Cert.KernelIdeal Cert.KernelIdeal.Gen

variable (m : (ℓ : Loc nD τ sig) → Buf (Elt Ideal) ℓ) (c : Dev nD)

/-- Position `s` of batch `b` among the merged rows. -/
def flatRow (b : Fin 6) (s : Fin 4096) : Fin 24576 := ⟨4096 * b.val + s.val, by omega⟩

/-- Row `i` of block `t` among the merged rows. -/
def blkRow (t : Fin cfg0.N) (i : Fin 1024) : Fin 24576 := ⟨1024 * t.val + i.val, by have h : t.val < 24 := t.isLt; omega⟩

/-- The activations, merged. -/
abbrev xF : Vec Ideal S24576x1024 .bf16 := V m c main_v0
/-- The packed weights. -/
abbrev pF : Vec Ideal S512x1152 .i8 := m ((c : Thread nD τ).loc main_arg1)
/-- The weights' scales. -/
abbrev sF : Vec Ideal S8x1152 .f32 := m ((c : Thread nD τ).loc main_arg2)
/-- The residual, merged. -/
abbrev rF : Vec Ideal S24576x1152 .bf16 := V m c main_v1
/-- Gamma as one row. -/
abbrev gF : Vec Ideal S1x1152 .f32 := V m c main_v2

/-- Merging the first two axes, at an element. -/
theorem merge_apply {α : Type} {n : ℕ} (x : (⟨3, ![6, 4096, n]⟩ : Shape).Idx → α)
    (h : (⟨3, ![6, 4096, n]⟩ : Shape).ShapeCasts ⟨2, ![24576, n]⟩) (b : Fin 6) (s : Fin 4096) (k : Fin n) :
    shapeCast ⟨2, ![24576, n]⟩ x h (ix2 (flatRow b s) k) = x (ix3 b s k) :=
  shapeCast_apply x h _ _ (by
    rw [Shape.rowMajor_val_two, Shape.rowMajor_val_three]
    show (b.val * 4096 + s.val) * n + k.val = (4096 * b.val + s.val) * n + k.val
    rw [Nat.mul_comm 4096])

/-- Splitting them again, at an element. -/
theorem split_apply {α : Type} {n : ℕ} (x : (⟨2, ![24576, n]⟩ : Shape).Idx → α)
    (h : (⟨2, ![24576, n]⟩ : Shape).ShapeCasts ⟨3, ![6, 4096, n]⟩) (b : Fin 6) (s : Fin 4096) (k : Fin n) :
    shapeCast ⟨3, ![6, 4096, n]⟩ x h (ix3 b s k) = x (ix2 (flatRow b s) k) :=
  shapeCast_apply x h _ _ (by
    rw [Shape.rowMajor_val_two, Shape.rowMajor_val_three]
    show (4096 * b.val + s.val) * n + k.val = (b.val * 4096 + s.val) * n + k.val
    rw [Nat.mul_comm 4096])

/-- The merged activations at an element. -/
theorem xF_apply (b : Fin 6) (s : Fin 4096) (k : Fin 1024) :
    xF m c (ix2 (flatRow b s) k) = (m ((c : Thread nD τ).loc main_arg0) : Vec Ideal S6x4096x1024 .bf16) (ix3 b s k) := by
  have e : xF m c = shapeCast S24576x1024 (m ((c : Thread nD τ).loc main_arg0) : Vec Ideal S6x4096x1024 .bf16) shapeCasts_S6x4096x1024_S24576x1024 := by
    show StableHlo.after (List.flatten [hostOps0]) (fun b => m (c, b)) (Proc.devRef .tc main_v0) = _
    simp only [List.flatten_cons, List.flatten_nil, List.append_nil]
    after_results
    rfl
  rw [e]
  exact merge_apply _ _ b s k

/-- The merged residual at an element. -/
theorem rF_apply (b : Fin 6) (s : Fin 4096) (k : Fin 1152) :
    rF m c (ix2 (flatRow b s) k) = (m ((c : Thread nD τ).loc main_arg3) : Vec Ideal S6x4096x1152 .bf16) (ix3 b s k) := by
  have e : rF m c = shapeCast S24576x1152 (m ((c : Thread nD τ).loc main_arg3) : Vec Ideal S6x4096x1152 .bf16) shapeCasts_S6x4096x1152_S24576x1152 := by
    show StableHlo.after (List.flatten [hostOps0]) (fun b => m (c, b)) (Proc.devRef .tc main_v1) = _
    simp only [List.flatten_cons, List.flatten_nil, List.append_nil]
    after_results
    rfl
  rw [e]
  exact merge_apply _ _ b s k

/-- Gamma's row at a column. -/
theorem gF_apply (k : Fin 1152) :
    gF m c (ix2 (0 : Fin 1) k) = (m ((c : Thread nD τ).loc main_arg4) : Vec Ideal S1152 .f32) (ix1 k) := by
  have e : gF m c = shapeCast S1x1152 (m ((c : Thread nD τ).loc main_arg4) : Vec Ideal S1152 .f32) shapeCasts_S1152_S1x1152 := by
    show StableHlo.after (List.flatten [hostOps0]) (fun b => m (c, b)) (Proc.devRef .tc main_v2) = _
    simp only [List.flatten_cons, List.flatten_nil, List.append_nil]
    after_results
    rfl
  rw [e]
  exact shapeCast_a_1a_apply _ _ 0 k

/-- Where each window's block is. -/
theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel

/-- A block of activations at an element. -/
theorem blk0 (t : Fin cfg0.N) (i : Fin 1024) (k : Fin 1024) :
    (iblk m c 0 t : Vec Ideal S1024x1024 .bf16) (ix2 i k) = xF m c (ix2 (blkRow t i) k) := by
  unfold iblk
  rw [View.read_apply]
  refine congrArg (xF m c) (funext fun ax => Fin.ext ?_)
  match ax with
  | ⟨0, _⟩ => show win0_0.index t 0 * 1024 + 1 * i.val = 1024 * t.val + i.val; rw [(idx0 t).1]; omega
  | ⟨1, _⟩ => show win0_0.index t 1 * 1024 + 1 * k.val = k.val; rw [(idx0 t).2]; omega

/-- The packed weights' block is all of them. -/
theorem blk1 (t : Fin cfg0.N) : (iblk m c 1 t : Vec Ideal S512x1152 .i8) = pF m c := by
  funext y
  unfold iblk
  rw [View.read_apply]
  refine Eq.trans (congrArg (V m c main_arg1) (a₂ := y) (funext fun ax => Fin.ext ?_)) (congrFun (V_main_arg1 m c) y)
  match ax with
  | ⟨0, _⟩ => show win0_1.index t 0 * 512 + 1 * (y 0).val = (y 0).val; rw [(idx1 t).1]; omega
  | ⟨1, _⟩ => show win0_1.index t 1 * 1152 + 1 * (y 1).val = (y 1).val; rw [(idx1 t).2]; omega

/-- The scales' block is all of them. -/
theorem blk2 (t : Fin cfg0.N) : (iblk m c 2 t : Vec Ideal S8x1152 .f32) = sF m c := by
  funext y
  unfold iblk
  rw [View.read_apply]
  refine Eq.trans (congrArg (V m c main_arg2) (a₂ := y) (funext fun ax => Fin.ext ?_)) (congrFun (V_main_arg2 m c) y)
  match ax with
  | ⟨0, _⟩ => show win0_2.index t 0 * 8 + 1 * (y 0).val = (y 0).val; rw [(idx2 t).1]; omega
  | ⟨1, _⟩ => show win0_2.index t 1 * 1152 + 1 * (y 1).val = (y 1).val; rw [(idx2 t).2]; omega

/-- A block of the residual at an element. -/
theorem blk3 (t : Fin cfg0.N) (i : Fin 1024) (k : Fin 1152) :
    (iblk m c 3 t : Vec Ideal S1024x1152 .bf16) (ix2 i k) = rF m c (ix2 (blkRow t i) k) := by
  unfold iblk
  rw [View.read_apply]
  refine congrArg (rF m c) (funext fun ax => Fin.ext ?_)
  match ax with
  | ⟨0, _⟩ => show win0_3.index t 0 * 1024 + 1 * i.val = 1024 * t.val + i.val; rw [(idx3 t).1]; omega
  | ⟨1, _⟩ => show win0_3.index t 1 * 1152 + 1 * k.val = k.val; rw [(idx3 t).2]; omega

/-- Gamma's block is gamma. -/
theorem blk4 (t : Fin cfg0.N) : (iblk m c 4 t : Vec Ideal S1x1152 .f32) = gF m c := by
  funext y
  unfold iblk
  rw [View.read_apply]
  refine congrArg (V m c main_v2) (funext fun ax => Fin.ext ?_)
  match ax with
  | ⟨0, _⟩ => show win0_4.index t 0 * 1 + 1 * (y 0).val = (y 0).val; rw [(idx4 t).1]; omega
  | ⟨1, _⟩ => show win0_4.index t 1 * 1152 + 1 * (y 1).val = (y 1).val; rw [(idx4 t).2]; omega

end Cert.KernelIdeal.Value
-- ==== Proof.Array.lean ====
/-
  What the kernel's three result arrays hold: by induction over the grid the scratch always holds the weights, so every
  block is its rows' hidden rows, codes and scales, and the blocks cover the arrays.
-/
module

public import proofs.«01_k».proof.Proof.Entry

@[expose] public section
noncomputable section
open Idealize.ShloMosaic Idealize.ShloMosaic.TcCoe Idealize.SL.Sem
open Idealize.ShloMosaic.ValueIdx

namespace Cert.KernelIdeal.Value
open Cert.KernelIdeal Cert.KernelIdeal.Gen

variable (m : (ℓ : Loc nD τ sig) → Buf (Elt Ideal) ℓ) (c : Dev nD)

/-- The weights. -/
abbrev wF : Vec Ideal S1024x1152 .bf16 := wArr (pF m c) (sF m c)

/-- After every point: the block's hidden rows, codes and scales, and the weights in scratch. -/
theorem outsAt_eq : ∀ (n : ℕ) (h : n < cfg0.N), outsAt0 m c n h
    = (hArr (iblk m c 0 ⟨n, h⟩) (wF m c) (iblk m c 3 ⟨n, h⟩), cArr (iblk m c 0 ⟨n, h⟩) (wF m c) (iblk m c 3 ⟨n, h⟩) (gF m c),
       sArr (iblk m c 0 ⟨n, h⟩) (wF m c) (iblk m c 3 ⟨n, h⟩) (gF m c), wF m c)
  | 0, h => by
    rw [outsAt0_A m c ⟨0, h⟩ rfl, outA_5, outA_6, outA_7, soutA, blk1, blk2, blk4]
  | n + 1, h => by
    have hN : cfg0.N = 24 := rfl
    have hB : ¬(⟨n + 1, h⟩ : Fin cfg0.N).val % 24 = 0 := by dsimp only; omega
    rw [outsAt0_B m c ⟨n + 1, h⟩ hB, outB_5, outB_6, outB_7, blk4]
    have ih : (outsAt0 m c n (Nat.lt_of_succ_lt h)).2.2.2 = wF m c := by rw [outsAt_eq n]
    unfold sout0_B_0
    show (hArr _ (outsAt0 m c n _).2.2.2 _, cArr _ (outsAt0 m c n _).2.2.2 _ _, sArr _ (outsAt0 m c n _).2.2.2 _ _, (outsAt0 m c n _).2.2.2) = _
    rw [ih]

/-- Merged row `r` of the hidden rows. -/
def hF (r : Fin 24576) (k : Fin 1152) : EReal :=
  Spec.hAt (fun j => xF m c (ix2 r j)) (fun j => wF m c (ix2 j k)) (rF m c (ix2 r k))

/-- The hidden rows' array. -/
def G5 : Vec Ideal S24576x1152 .bf16 := fun y => hF m c (y 0) (y 1)
/-- The codes' array. -/
def G6 : Vec Ideal S24576x1152 .i8 := fun y => Spec.rowCode (hF m c (y 0)) (gFn (gF m c)) (y 1)
/-- The scales' array. -/
def G7 : Vec Ideal S24576x1 .f32 := fun y => Spec.rowScale (hF m c (y 0)) (gFn (gF m c))

/-- A block's hidden row is the merged hidden row. -/
theorem hRow_blk (t : Fin cfg0.N) (i : Fin 1024) : hRow (iblk m c 0 t) (wF m c) (iblk m c 3 t) i = hF m c (blkRow t i) := by
  funext k
  unfold hRow hF
  rw [blk3]
  simp only [blk0]

/-- Each write-back of the hidden rows writes its block of the array. -/
theorem flushed5 (t : Fin cfg0.N) : (dats m 0 c).flushed 5 t = ((cfg0.win 5).blk t).view.read (Elt Ideal) (G5 m c) := by
  show (cfg0.win 5).cut (grid0.coords t) ((dats m 0 c).after 5 t) = _
  rw [after0_5, outsAt_eq]
  funext y
  rw [View.read_apply]
  have hr : (((cfg0.win 5).blk t).view.emb y) 0 = blkRow t (y 0) := Fin.ext (by
    show win0_5.index t 0 * 1024 + 1 * (y 0).val = 1024 * t.val + (y 0).val; rw [(idx5 t).1]; omega)
  have hk : (((cfg0.win 5).blk t).view.emb y) 1 = y 1 := Fin.ext (by
    show win0_5.index t 1 * 1152 + 1 * (y 1).val = (y 1).val; rw [(idx5 t).2]; omega)
  exact (congrFun (hRow_blk m c t (y 0)) (y 1)).trans (congrArg₂ (hF m c) hr.symm hk.symm)

/-- Each write-back of the codes writes its block of the array. -/
theorem flushed6 (t : Fin cfg0.N) : (dats m 0 c).flushed 6 t = ((cfg0.win 6).blk t).view.read (Elt Ideal) (G6 m c) := by
  show (cfg0.win 6).cut (grid0.coords t) ((dats m 0 c).after 6 t) = _
  rw [after0_6, outsAt_eq]
  funext y
  rw [View.read_apply]
  have hr : (((cfg0.win 6).blk t).view.emb y) 0 = blkRow t (y 0) := Fin.ext (by
    show win0_6.index t 0 * 1024 + 1 * (y 0).val = 1024 * t.val + (y 0).val; rw [(idx6 t).1]; omega)
  have hk : (((cfg0.win 6).blk t).view.emb y) 1 = y 1 := Fin.ext (by
    show win0_6.index t 1 * 1152 + 1 * (y 1).val = (y 1).val; rw [(idx6 t).2]; omega)
  exact (congrArg (fun h => Spec.rowCode h (gFn (gF m c)) (y 1)) (hRow_blk m c t (y 0))).trans
    (congrArg₂ (fun r k => Spec.rowCode (hF m c r) (gFn (gF m c)) k) hr.symm hk.symm)

/-- Each write-back of the scales writes its block of the array. -/
theorem flushed7 (t : Fin cfg0.N) : (dats m 0 c).flushed 7 t = ((cfg0.win 7).blk t).view.read (Elt Ideal) (G7 m c) := by
  show (cfg0.win 7).cut (grid0.coords t) ((dats m 0 c).after 7 t) = _
  rw [after0_7, outsAt_eq]
  funext y
  rw [View.read_apply]
  have hr : (((cfg0.win 7).blk t).view.emb y) 0 = blkRow t (y 0) := Fin.ext (by
    show win0_7.index t 0 * 1024 + 1 * (y 0).val = 1024 * t.val + (y 0).val; rw [(idx7 t).1]; omega)
  exact (congrArg (fun h => Spec.rowScale h (gFn (gF m c))) (hRow_blk m c t (y 0))).trans
    (congrArg (fun r => Spec.rowScale (hF m c r) (gFn (gF m c))) hr.symm)

/-- The point whose block holds merged row `r`. -/
def ptOf (r : Fin 24576) : Fin cfg0.N := ⟨r.val / 1024, by have h : cfg0.N = 24 := rfl; omega⟩

/-- The hidden rows' array after the grid. -/
theorem final5 : (dats m 0 c).arrAt 5 cfg0.N = G5 m c :=
  (dats m 0 c).arrAt_eq_of_cover 5 (G5 m c) (fun t _ => flushed5 m c t) fun i =>
    ⟨ptOf (i 0), flush0_5 _, by
      show i ∈ ((View.whole main_v3_0).slice (win0_5.rect (ptOf (i 0)))).set
      rw [View.set_slice_whole, Rect.mem_set_unit]
      intro a
      have h1 : (i 1 : Nat) < 1152 := (i 1).isLt
      have hp : (ptOf (i 0)).val = (i 0).val / 1024 := rfl
      match a with
      | ⟨0, _⟩ => show win0_5.index (ptOf (i 0)) 0 * 1024 ≤ (i 0 : Nat) ∧ (i 0 : Nat) < win0_5.index (ptOf (i 0)) 0 * 1024 + 1024
                  rw [(idx5 _).1, hp]; omega
      | ⟨1, _⟩ => show win0_5.index (ptOf (i 0)) 1 * 1152 ≤ (i 1 : Nat) ∧ (i 1 : Nat) < win0_5.index (ptOf (i 0)) 1 * 1152 + 1152
                  rw [(idx5 _).2]; omega⟩

/-- The codes' array after the grid. -/
theorem final6 : (dats m 0 c).arrAt 6 cfg0.N = G6 m c :=
  (dats m 0 c).arrAt_eq_of_cover 6 (G6 m c) (fun t _ => flushed6 m c t) fun i =>
    ⟨ptOf (i 0), flush0_6 _, by
      show i ∈ ((View.whole main_v3_1).slice (win0_6.rect (ptOf (i 0)))).set
      rw [View.set_slice_whole, Rect.mem_set_unit]
      intro a
      have h1 : (i 1 : Nat) < 1152 := (i 1).isLt
      have hp : (ptOf (i 0)).val = (i 0).val / 1024 := rfl
      match a with
      | ⟨0, _⟩ => show win0_6.index (ptOf (i 0)) 0 * 1024 ≤ (i 0 : Nat) ∧ (i 0 : Nat) < win0_6.index (ptOf (i 0)) 0 * 1024 + 1024
                  rw [(idx6 _).1, hp]; omega
      | ⟨1, _⟩ => show win0_6.index (ptOf (i 0)) 1 * 1152 ≤ (i 1 : Nat) ∧ (i 1 : Nat) < win0_6.index (ptOf (i 0)) 1 * 1152 + 1152
                  rw [(idx6 _).2]; omega⟩

/-- The scales' array after the grid. -/
theorem final7 : (dats m 0 c).arrAt 7 cfg0.N = G7 m c :=
  (dats m 0 c).arrAt_eq_of_cover 7 (G7 m c) (fun t _ => flushed7 m c t) fun i =>
    ⟨ptOf (i 0), flush0_7 _, by
      show i ∈ ((View.whole main_v3_2).slice (win0_7.rect (ptOf (i 0)))).set
      rw [View.set_slice_whole, Rect.mem_set_unit]
      intro a
      have h1 : (i 1 : Nat) < 1 := (i 1).isLt
      have hp : (ptOf (i 0)).val = (i 0).val / 1024 := rfl
      match a with
      | ⟨0, _⟩ => show win0_7.index (ptOf (i 0)) 0 * 1024 ≤ (i 0 : Nat) ∧ (i 0 : Nat) < win0_7.index (ptOf (i 0)) 0 * 1024 + 1024
                  rw [(idx7 _).1, hp]; omega
      | ⟨1, _⟩ => show win0_7.index (ptOf (i 0)) 1 * 1 ≤ (i 1 : Nat) ∧ (i 1 : Nat) < win0_7.index (ptOf (i 0)) 1 * 1 + 1
                  rw [(idx7 _).2]; omega⟩

end Cert.KernelIdeal.Value
-- ==== Proof.Closed.lean ====
/-
  The three results as functions of the five arguments: the closed forms both programs are shown to compute.
-/
module

public import proofs.«01_k».proof.Proof.Spec
public import Idealize.ShloMosaic.Lib.ValueIdx

@[expose] public section
noncomputable section
open Idealize.ShloMosaic Idealize.ShloMosaic.ValueIdx

namespace Cert.Spec

/-- Index spaces of the arguments and results. -/
abbrev IX : Type := (⟨3, ![6, 4096, 1024]⟩ : Shape).Idx
abbrev IP : Type := (⟨2, ![512, 1152]⟩ : Shape).Idx
abbrev IS : Type := (⟨2, ![8, 1152]⟩ : Shape).Idx
abbrev IR : Type := (⟨3, ![6, 4096, 1152]⟩ : Shape).Idx
abbrev IG : Type := (⟨1, ![1152]⟩ : Shape).Idx
abbrev I1 : Type := (⟨3, ![6, 4096, 1]⟩ : Shape).Idx

variable (x : IX → EReal) (p : IP → BitVec 8) (s : IS → EReal) (r : IR → EReal) (g : IG → EReal)

/-- Row `k`, column `c` of the dequantised weights: field `k % 2` of packed row `k / 2`, times the scale of group `k / 128`. -/
def weight (k : Fin 1024) (c : Fin 1152) : EReal :=
  nib (k.val % 2) (p (ix2 (⟨k.val / 2, by omega⟩ : Fin 512) c)) * s (ix2 (⟨k.val / 128, by omega⟩ : Fin 8) c)

/-- The hidden row at batch `b`, position `q`: residual plus the projection. -/
def hidden (b : Fin 6) (q : Fin 4096) (c : Fin 1152) : EReal :=
  hAt (fun k => x (ix3 b q k)) (fun k => weight p s k c) (r (ix3 b q c))

/-- The hidden rows. -/
def outHidden : IR → EReal := fun y => hidden x p s r (y 0) (y 1) (y 2)
/-- The codes. -/
def outCodes : IR → BitVec 8 := fun y => rowCode (hidden x p s r (y 0) (y 1)) (fun c => g (ix1 c)) (y 2)
/-- The scales. -/
def outScales : I1 → EReal := fun y => rowScale (hidden x p s r (y 0) (y 1)) fun c => g (ix1 c)

end Cert.Spec
-- ==== Proof.KernelRun.lean ====
/-
  The kernel's run: its three results, split again into batch and position, are the closed forms of its arguments, and the
  arguments end unchanged.
-/
module

public import proofs.«01_k».proof.Proof.Array
public import proofs.«01_k».proof.Proof.Closed

@[expose] public section
noncomputable section
open Idealize.ShloMosaic Idealize.ShloMosaic.TcCoe Idealize.SL.Sem
open Idealize.ShloMosaic.ValueIdx

namespace Cert.KernelIdeal.Value
open Cert.KernelIdeal Cert.KernelIdeal.Gen

variable (m : (ℓ : Loc nD τ sig) → Buf (Elt Ideal) ℓ) (ρ : Dev nD → PrngReg) (c : Dev nD)

/-- The activations. -/
abbrev a0 : Vec Ideal S6x4096x1024 .bf16 := m ((c : Thread nD τ).loc main_arg0)
/-- The residual. -/
abbrev a3 : Vec Ideal S6x4096x1152 .bf16 := m ((c : Thread nD τ).loc main_arg3)
/-- Gamma. -/
abbrev a4 : Vec Ideal S1152 .f32 := m ((c : Thread nD τ).loc main_arg4)

/-- The weights in scratch are the specification's. -/
theorem wF_apply (k : Fin 1024) (j : Fin 1152) : wF m c (ix2 k j) = Spec.weight (pF m c) (sF m c) k j := rfl

/-- A merged hidden row is the specification's. -/
theorem hF_flat (b : Fin 6) (q : Fin 4096) : hF m c (flatRow b q) = Spec.hidden (a0 m c) (pF m c) (sF m c) (a3 m c) b q := by
  funext k
  unfold hF Spec.hidden
  exact congrArg₂ (fun (f : Fin 1024 → EReal) (r : EReal) => Spec.hAt f (fun j => Spec.weight (pF m c) (sF m c) j k) r)
    (funext fun j => xF_apply m c b q j) (rF_apply m c b q k)

/-- Gamma by columns is the specification's. -/
theorem gFn_eq : gFn (gF m c) = fun k => a4 m c (ix1 k) := funext fun k => gF_apply m c k

/-- What `main_v4` ends holding. -/
theorem tail4 : Pipeline.afterTail₀ cfgs (dats m) 0 (V0 m) [hostOps1] c main_v4
    = Spec.outHidden (a0 m c) (pF m c) (sF m c) (a3 m c) := by
  have e : Pipeline.afterTail₀ cfgs (dats m) 0 (V0 m) [hostOps1] c main_v4
      = shapeCast S6x4096x1152 (G5 m c) shapeCasts_S24576x1152_S6x4096x1152 := by
    unfold Pipeline.afterTail₀
    simp only [List.flatten_cons, List.flatten_nil, List.append_nil]
    after_results
    refine congrArg (fun z => shapeCast S6x4096x1152 z shapeCasts_S24576x1152_S6x4096x1152) ?_
    exact (Pipeline.withArrays_arr spec0 (by decide) c (V0 m c) _ 5).trans (final5 m c)
  rw [e]
  funext y
  refine (congrArg _ (eq_ix3 y)).trans ((split_apply (G5 m c) _ (y 0) (y 1) (y 2)).trans ?_)
  exact congrFun (hF_flat m c (y 0) (y 1)) (y 2)

/-- What `main_v5` ends holding. -/
theorem tail5 : Pipeline.afterTail₀ cfgs (dats m) 0 (V0 m) [hostOps1] c main_v5
    = Spec.outCodes (a0 m c) (pF m c) (sF m c) (a3 m c) (a4 m c) := by
  have e : Pipeline.afterTail₀ cfgs (dats m) 0 (V0 m) [hostOps1] c main_v5
      = shapeCast S6x4096x1152 (G6 m c) shapeCasts_S24576x1152_S6x4096x1152 := by
    unfold Pipeline.afterTail₀
    simp only [List.flatten_cons, List.flatten_nil, List.append_nil]
    after_results
    refine congrArg (fun z => shapeCast S6x4096x1152 z shapeCasts_S24576x1152_S6x4096x1152) ?_
    exact (Pipeline.withArrays_arr spec0 (by decide) c (V0 m c) _ 6).trans (final6 m c)
  rw [e]
  funext y
  refine (congrArg _ (eq_ix3 y)).trans ((split_apply (G6 m c) _ (y 0) (y 1) (y 2)).trans ?_)
  exact congrArg₂ (fun h g => Spec.rowCode h g (y 2)) (hF_flat m c (y 0) (y 1)) (gFn_eq m c)

/-- What `main_v6` ends holding. -/
theorem tail6 : Pipeline.afterTail₀ cfgs (dats m) 0 (V0 m) [hostOps1] c main_v6
    = Spec.outScales (a0 m c) (pF m c) (sF m c) (a3 m c) (a4 m c) := by
  have e : Pipeline.afterTail₀ cfgs (dats m) 0 (V0 m) [hostOps1] c main_v6
      = shapeCast S6x4096x1 (G7 m c) shapeCasts_S24576x1_S6x4096x1 := by
    unfold Pipeline.afterTail₀
    simp only [List.flatten_cons, List.flatten_nil, List.append_nil]
    after_results
    refine congrArg (fun z => shapeCast S6x4096x1 z shapeCasts_S24576x1_S6x4096x1) ?_
    exact (Pipeline.withArrays_arr spec0 (by decide) c (V0 m c) _ 7).trans (final7 m c)
  rw [e]
  funext y
  refine (congrArg _ (eq_ix3 y)).trans ((split_apply (G7 m c) _ (y 0) (y 1) (y 2)).trans ?_)
  exact congrArg₂ Spec.rowScale (hF_flat m c (y 0) (y 1)) (gFn_eq m c)

/-- The run, read: the three results at the closed forms, the arguments unchanged. -/
theorem run : θ_run defs (onTc (τ := τ) (main (F := Ideal))) ⟨m, fun _ => 0, ρ⟩ fun r => ∀ c : Dev nD,
      r.2.mem ((c : Thread nD τ).loc main_v4) = Spec.outHidden (a0 m c) (pF m c) (sF m c) (a3 m c)
      ∧ r.2.mem ((c : Thread nD τ).loc main_v5) = Spec.outCodes (a0 m c) (pF m c) (sF m c) (a3 m c) (a4 m c)
      ∧ r.2.mem ((c : Thread nD τ).loc main_v6) = Spec.outScales (a0 m c) (pF m c) (sF m c) (a3 m c) (a4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨((h.1 c).2 main_v4 (Pipeline.mem_restRefs_of main_v4 (by decide) (by decide))).trans (tail4 m c),
        ((h.1 c).2 main_v5 (Pipeline.mem_restRefs_of main_v5 (by decide) (by decide))).trans (tail5 m c),
        ((h.1 c).2 main_v6 (Pipeline.mem_restRefs_of main_v6 (by decide) (by decide))).trans (tail6 m c), h.2 c⟩)
    (θ_run_and (run_main m ρ) (unchanged m ρ))

end Cert.KernelIdeal.Value
-- ==== Proof.RefWeights.lean ====
/-
  What the reference's weights hold: its unpacked, scaled and interleaved matrix is the specification's, element by element.
-/
module

public import proofs.«01_k».proof.Proof.Closed
public import proofs.«01_k».proof.Proof.Gen.ReferenceIdeal.Read
public import Idealize.ShloMosaic.Lib.Pipeline.Value

@[expose] public section
noncomputable section
open Idealize.ShloMosaic Idealize.ShloMosaic.TcCoe Idealize.SL.Sem
open Idealize.ShloMosaic.ValueIdx

namespace Cert.ReferenceIdeal.Closed
open Cert.ReferenceIdeal Cert.ReferenceIdeal.Read

variable (x1 : (⟨S512x1152, .i8⟩ : BufTy).Contents (Elt Ideal)) (x2 : (⟨S8x1152, .f32⟩ : BufTy).Contents (Elt Ideal))

/-- The reference's low field as a float. -/
theorem low_apply (i : S512x1152.Idx) : val_main_v9 (F := Ideal) x1 i = Spec.nib 0 (x1 i) := by
  rw [val_main_v9_apply, val_main_v8_apply, val_main_v5_apply, val_main_v7_apply, val_main_v3_apply, val_main_v1_apply,
    val_main_v2_apply, val_main_v4_apply, val_main_v6_apply, val_main_c_apply, val_main_c_0_apply, val_main_c_1_apply]
  exact congrArg (fun n : ℤ => ((n : ℝ) : EReal)) (Spec.lo_where (x1 i))

/-- The reference's high field as a float. -/
theorem high_apply (i : S512x1152.Idx) : val_main_v22 (F := Ideal) x1 i = Spec.nib 1 (x1 i) := by
  rw [val_main_v22_apply, val_main_v21_apply, val_main_v18_apply, val_main_v20_apply, val_main_v16_apply, val_main_v1_apply,
    val_main_v15_apply, val_main_v17_apply, val_main_v19_apply, val_main_c_2_apply, val_main_c_3_apply, val_main_c_4_apply]
  exact congrArg (fun n : ℤ => ((n : ℝ) : EReal)) (Spec.hi_where (x1 i))

/-- Splitting the packed rows into groups of 64 and merging them again is the identity. -/
theorem merge_split (q : Fin 512) (c : Fin 1152) : idx_main_v10 (idx_main_v14 (ix2 q c)) = ix2 q c := by
  funext a
  match a with
  | ⟨0, _⟩ => apply Fin.ext; dsimp; omega
  | ⟨1, _⟩ => apply Fin.ext; dsimp; omega

/-- A packed row's scale is that of its group of 64. -/
theorem group_of (q : Fin 512) (c : Fin 1152) :
    idx_main_v11 (idx_main_v12 (idx_main_v14 (ix2 q c))) = ix2 (⟨q.val / 64, by omega⟩ : Fin 8) c := by
  funext a
  match a with
  | ⟨0, _⟩ => apply Fin.ext; show (q.val * 1152 + c.val) / 73728 = q.val / 64; omega
  | ⟨1, _⟩ => apply Fin.ext; show (q.val * 1152 + c.val) % 1152 = c.val; omega

/-- A weight of the even rows: the low field times its group's scale. -/
theorem even_apply (q : Fin 512) (c : Fin 1152) :
    val_main_v14 (F := Ideal) x1 x2 (ix2 q c) = Spec.nib 0 (x1 (ix2 q c)) * x2 (ix2 (⟨q.val / 64, by omega⟩ : Fin 8) c) := by
  rw [val_main_v14_apply, val_main_v13_apply, val_main_v10_apply, val_main_v12_apply, val_main_v11_apply, merge_split, group_of,
    low_apply, val_main_v0_apply]
  rfl

/-- A weight of the odd rows: the high field times its group's scale. -/
theorem odd_apply (q : Fin 512) (c : Fin 1152) :
    val_main_v27 (F := Ideal) x1 x2 (ix2 q c) = Spec.nib 1 (x1 (ix2 q c)) * x2 (ix2 (⟨q.val / 64, by omega⟩ : Fin 8) c) := by
  have e : idx_main_v23 (idx_main_v27 (ix2 q c)) = ix2 q c := merge_split q c
  have eg : idx_main_v24 (idx_main_v25 (idx_main_v27 (ix2 q c))) = ix2 (⟨q.val / 64, by omega⟩ : Fin 8) c := group_of q c
  rw [val_main_v27_apply, val_main_v26_apply, val_main_v23_apply, val_main_v25_apply, val_main_v24_apply, e, eg, high_apply,
    val_main_v0_apply]
  rfl

/-- Row `k` of the interleaved matrix is field `k % 2` of packed row `k / 2`. -/
theorem row_of (k : Fin 1024) (c : Fin 1152) :
    idx_main_v31 (ix2 k c) = ix3 (⟨k.val / 2, by omega⟩ : Fin 512) (⟨k.val % 2, by omega⟩ : Fin 2) c := by
  funext a
  match a with
  | ⟨0, _⟩ => apply Fin.ext; show (k.val * 1152 + c.val) / 2304 = k.val / 2; omega
  | ⟨1, _⟩ => apply Fin.ext; show (k.val * 1152 + c.val) / 1152 % 2 = k.val % 2; omega
  | ⟨2, _⟩ => apply Fin.ext; show (k.val * 1152 + c.val) % 1152 = c.val; omega

/-- The stacked pair's first half is the even rows. -/
theorem pair_left (q : Fin 512) (c : Fin 1152) :
    val_main_v30 (F := Ideal) x1 x2 (ix3 q (0 : Fin 2) c) = val_main_v14 (F := Ideal) x1 x2 (ix2 q c) := by
  unfold val_main_v30
  refine (concatenate_pair_apply_left (t := S512x2x1152) (s₁ := S512x1x1152) (s₂ := S512x1x1152) 1 _ _ _ (ix3 q (0 : Fin 2) c) rfl
    (ix3 q (0 : Fin 1) c : S512x1x1152.Idx) (fun b => ?_)).trans ?_
  · match b with
    | ⟨0, _⟩ => rfl
    | ⟨1, _⟩ => rfl
    | ⟨2, _⟩ => rfl
  · rw [val_main_v28_apply]
    refine congrArg (val_main_v14 (F := Ideal) x1 x2) (funext fun a => ?_)
    match a with
    | ⟨0, _⟩ => rfl
    | ⟨1, _⟩ => rfl

/-- Its second half is the odd rows. -/
theorem pair_right (q : Fin 512) (c : Fin 1152) :
    val_main_v30 (F := Ideal) x1 x2 (ix3 q (1 : Fin 2) c) = val_main_v27 (F := Ideal) x1 x2 (ix2 q c) := by
  unfold val_main_v30
  refine (concatenate_pair_apply_right (t := S512x2x1152) (s₁ := S512x1x1152) (s₂ := S512x1x1152) 1 _ _ _ (ix3 q (1 : Fin 2) c) rfl rfl
    (ix3 q (0 : Fin 1) c : S512x1x1152.Idx) (fun b hb => ?_) rfl).trans ?_
  · match b with
    | ⟨0, _⟩ => rfl
    | ⟨1, _⟩ => exact absurd rfl hb
    | ⟨2, _⟩ => rfl
  · rw [val_main_v29_apply]
    refine congrArg (val_main_v27 (F := Ideal) x1 x2) (funext fun a => ?_)
    match a with
    | ⟨0, _⟩ => rfl
    | ⟨1, _⟩ => rfl

/-- The reference's weights are the specification's. -/
theorem weight_apply (k : Fin 1024) (c : Fin 1152) : val_main_v31 (F := Ideal) x1 x2 (ix2 k c) = Spec.weight x1 x2 k c := by
  rw [val_main_v31_apply, row_of]
  unfold Spec.weight
  have hg : (⟨k.val / 2 / 64, by omega⟩ : Fin 8) = ⟨k.val / 128, by omega⟩ := Fin.ext (by dsimp; omega)
  rcases Nat.mod_two_eq_zero_or_one k.val with h | h
  · have hf : (⟨k.val % 2, by omega⟩ : Fin 2) = 0 := Fin.ext h
    rw [hf, pair_left, even_apply, hg, h]
  · have hf : (⟨k.val % 2, by omega⟩ : Fin 2) = 1 := Fin.ext h
    rw [hf, pair_right, odd_apply, hg, h]

end Cert.ReferenceIdeal.Closed
-- ==== Proof.Ref.lean ====
/-
  What the reference computes: its three results are the closed forms of its arguments.
-/
module

public import proofs.«01_k».proof.Proof.RefWeights

@[expose] public section
noncomputable section
open Idealize.ShloMosaic Idealize.ShloMosaic.TcCoe Idealize.SL.Sem
open Idealize.ShloMosaic.ValueIdx

namespace Cert.ReferenceIdeal.Closed
open Cert.ReferenceIdeal Cert.ReferenceIdeal.Read

variable (x0 : (⟨S6x4096x1024, .bf16⟩ : BufTy).Contents (Elt Ideal)) (x1 : (⟨S512x1152, .i8⟩ : BufTy).Contents (Elt Ideal))
  (x2 : (⟨S8x1152, .f32⟩ : BufTy).Contents (Elt Ideal)) (x3 : (⟨S6x4096x1152, .bf16⟩ : BufTy).Contents (Elt Ideal))
  (x4 : (⟨S1152, .f32⟩ : BufTy).Contents (Elt Ideal))

/-- Gamma by columns. -/
abbrev gam : Fin 1152 → EReal := fun c => x4 (ix1 c)

/-- The projection: a row of activations times a column of weights. -/
theorem proj_apply (b : Fin 6) (q : Fin 4096) (c : Fin 1152) :
    val_main_v32 (F := Ideal) x0 x1 x2 (ix3 b q c) = ∑ k : Fin 1024, x0 (ix3 b q k) * Spec.weight x1 x2 k c := by
  rw [val_main_v32_apply]
  refine Finset.sum_congr rfl fun k _ => ?_
  have el : lidx_main_v32 (ix3 b q c) k = ix3 b q k := funext fun a => match a with | ⟨0, _⟩ => rfl | ⟨1, _⟩ => rfl | ⟨2, _⟩ => rfl
  have er : ridx_main_v32 (ix3 b q c) k = ix2 k c := funext fun a => match a with | ⟨0, _⟩ => rfl | ⟨1, _⟩ => rfl
  rw [el, er, weight_apply]

/-- A hidden element. -/
theorem hidden_apply (b : Fin 6) (q : Fin 4096) (c : Fin 1152) :
    val_main_v35 (F := Ideal) x0 x1 x2 x3 (ix3 b q c) = Spec.hidden x0 x1 x2 x3 b q c := by
  rw [val_main_v35_apply, val_main_v34_apply, val_main_v33_apply, proj_apply]
  rfl

/-- … widened again: the same. -/
theorem wide_apply (b : Fin 6) (q : Fin 4096) (c : Fin 1152) :
    val_main_v36 (F := Ideal) x0 x1 x2 x3 (ix3 b q c) = Spec.hidden x0 x1 x2 x3 b q c := by
  rw [val_main_v36_apply, hidden_apply]
  rfl

/-- A row's sum of squares. -/
theorem squares_apply (b : Fin 6) (q : Fin 4096) :
    val_main_v38 (F := Ideal) x0 x1 x2 x3 (ix2 b q)
      = ∑ c, Spec.hidden x0 x1 x2 x3 b q c * Spec.hidden x0 x1 x2 x3 b q c := by
  rw [val_main_v38_apply, val_main_cst_apply]
  have h0 : (FloatOps.ofBits (F := Ideal) .f32 0x00000000#32 : EReal) = 0 := by
    show Ideal.ofBits .f32 0x00000000#32 = 0
    simp [Ideal.ofBits, Ideal.ieee]
  refine (congrArg (· + _) h0).trans ((zero_add _).trans (Finset.sum_congr rfl fun k _ => ?_))
  have e : idx_main_v38 (ix2 b q) k = ix3 b q k := funext fun a => match a with | ⟨0, _⟩ => rfl | ⟨1, _⟩ => rfl | ⟨2, _⟩ => rfl
  rw [e, val_main_v37_apply, wide_apply]
  rfl

/-- A row's reciprocal root mean square. -/
theorem rms_apply (b : Fin 6) (q : Fin 4096) (z : Fin 1) :
    val_main_v44 (F := Ideal) x0 x1 x2 x3 (ix3 b q z)
      = Ideal.rsqrt (Spec.meanSq (Spec.hidden x0 x1 x2 x3 b q) + Ideal.ofBits .f32 0x3727C5AC#32) := by
  have e : idx_main_v39 (ix3 b q z) = ix2 b q := funext fun a => match a with | ⟨0, _⟩ => rfl | ⟨1, _⟩ => rfl
  rw [val_main_v44_apply, val_main_v43_apply, val_main_v41_apply, val_main_v39_apply, e, squares_apply, val_main_v40_apply,
    val_main_v42_apply, val_main_cst_5_apply, val_main_cst_6_apply]
  rfl

/-- A row's normalised element. -/
theorem norm_apply (b : Fin 6) (q : Fin 4096) (c : Fin 1152) :
    val_main_v49 (F := Ideal) x0 x1 x2 x3 x4 (ix3 b q c) = Spec.normAt (Spec.hidden x0 x1 x2 x3 b q) (gam x4) c := by
  have e : idx_main_v45 (ix3 b q c) = ix3 b q (0 : Fin 1) :=
    funext fun a => match a with | ⟨0, _⟩ => rfl | ⟨1, _⟩ => rfl | ⟨2, _⟩ => rfl
  have eg : idx_main_v47 (idx_main_v48 (ix3 b q c)) = ix1 c := funext fun a => match a with | ⟨0, _⟩ => rfl
  rw [val_main_v49_apply, val_main_v46_apply, wide_apply, val_main_v45_apply, e, rms_apply, val_main_v48_apply, val_main_v47_apply, eg]
  rfl

/-- A row's largest absolute value. -/
theorem amax_apply (b : Fin 6) (q : Fin 4096) :
    val_main_v51 (F := Ideal) x0 x1 x2 x3 x4 (ix2 b q) = Spec.amax (Spec.normAt (Spec.hidden x0 x1 x2 x3 b q) (gam x4)) := by
  unfold val_main_v51
  have hr : S6x4096x1152.Reduces [2] S6x4096 := by decide
  rw [Host.reduce_eq_fold_single FloatOps.maximumf _ _ _ hr]
  have hf : (val_main_v50 (F := Ideal) x0 x1 x2 x3 x4 ∘ hr.lift (ix2 b q))
      = fun c : Fin 1152 => max (Spec.normAt (Spec.hidden x0 x1 x2 x3 b q) (gam x4) c)
          (-(Spec.normAt (Spec.hidden x0 x1 x2 x3 b q) (gam x4) c)) := by
    have e : ∀ k : Fin 1152, hr.lift (ix2 b q) k = ix3 b q k := fun k =>
      funext fun a => Fin.ext (match a with | ⟨0, _⟩ => rfl | ⟨1, _⟩ => rfl | ⟨2, _⟩ => rfl)
    refine funext fun (k : Fin 1152) => (congrArg (val_main_v50 (F := Ideal) x0 x1 x2 x3 x4) (e k)).trans ?_
    rw [val_main_v50_apply, norm_apply]
    rfl
  exact congrArg (fun f => Finset.fold max (Ideal.ofBits .f32 0xFF800000#32) f (Finset.univ : Finset (Fin 1152))) hf

/-- A row's scale. -/
theorem scale_apply (b : Fin 6) (q : Fin 4096) (z : Fin 1) :
    val_main_v57 (F := Ideal) x0 x1 x2 x3 x4 (ix3 b q z) = Spec.rowScale (Spec.hidden x0 x1 x2 x3 b q) (gam x4) := by
  have e : idx_main_v52 (ix3 b q z) = ix2 b q := funext fun a => match a with | ⟨0, _⟩ => rfl | ⟨1, _⟩ => rfl
  rw [val_main_v57_apply, val_main_v54_apply, val_main_v56_apply, val_main_v52_apply, e, amax_apply, val_main_v53_apply,
    val_main_v55_apply, val_main_call2_v1_apply, val_main_call2_v0_apply, val_main_cst_8_apply, val_main_cst_9_apply,
    val_main_cst_10_apply]
  rfl

/-- A code. -/
theorem code_apply (b : Fin 6) (q : Fin 4096) (c : Fin 1152) :
    val_main_v63 (F := Ideal) x0 x1 x2 x3 x4 (ix3 b q c) = Spec.rowCode (Spec.hidden x0 x1 x2 x3 b q) (gam x4) c := by
  have e : idx_main_v58 (ix3 b q c) = ix3 b q (0 : Fin 1) :=
    funext fun a => match a with | ⟨0, _⟩ => rfl | ⟨1, _⟩ => rfl | ⟨2, _⟩ => rfl
  rw [val_main_v63_apply, val_main_v62_apply, val_main_v61_apply, val_main_call4_v2_apply, val_main_v60_apply, val_main_v59_apply,
    norm_apply, val_main_v58_apply, e, scale_apply, val_main_call4_v1_apply, val_main_call4_v0_apply, val_main_call4_v4_apply,
    val_main_call4_v3_apply, val_main_cst_11_apply, val_main_cst_12_apply]
  rfl

/-- The reference's hidden rows. -/
theorem hidden_eq : val_main_v35 (F := Ideal) x0 x1 x2 x3 = Spec.outHidden x0 x1 x2 x3 := funext fun y => by
  rw [eq_ix3 y]; exact hidden_apply x0 x1 x2 x3 _ _ _

/-- The reference's codes. -/
theorem codes_eq : val_main_v63 (F := Ideal) x0 x1 x2 x3 x4 = Spec.outCodes x0 x1 x2 x3 x4 := funext fun y => by
  rw [eq_ix3 y]; exact code_apply x0 x1 x2 x3 x4 _ _ _

/-- The reference's scales. -/
theorem scales_eq : val_main_v57 (F := Ideal) x0 x1 x2 x3 x4 = Spec.outScales x0 x1 x2 x3 x4 := funext fun y => by
  rw [eq_ix3 y]; exact scale_apply x0 x1 x2 x3 x4 _ _ _

end Cert.ReferenceIdeal.Closed
-- ==== Proof.lean ====
/-
  The proof of the certificate's claim: every program runs to the end with every counter at zero and its arguments unchanged; the
  idealized kernel is the kernel by the two bit-field rules; and on extended reals the kernel's three results (hidden rows,
  codes, scales) are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Ref
public import Idealize.ShloMosaic.Lib.Bf16Pair
public import Idealize.ShloMosaic.Adequacy
public import Idealize.ShloMosaic.Init

@[expose] public section

noncomputable section

namespace Cert.Proof

open Idealize.ShloMosaic Idealize.SL.Sem

/-- The kernel's weight rows are packed two to a word: reading such words as rows of bf16 numbers is interleaving the rows, and
    taking a float's high half is rounding it to bf16 once it is one. -/
theorem preserves : Cert.preserves_Kernel_KernelIdeal :=
  ⟨IdealRules.bf16_pair.statement _ _, IdealRules.bf16_pack.statement _⟩

section
attribute [local instance] Cert.KernelIdeal.Gen.facts Cert.ReferenceIdeal.Gen.facts

/-- On extended reals, from the same arguments, the kernel and the reference end with the same hidden rows, codes and scales:
    both are the specification's. -/
theorem algebraic : Cert.algebraic_KernelIdeal_ReferenceIdeal := by
  intro m g m' g' _ hargs
  refine ⟨_, _, _, Cert.KernelIdeal.Value.run m g, ?_⟩
  refine (θ_run (Cert.ReferenceIdeal.defs (F := Ideal)) _ _).mono (fun r h c => ?_) (Cert.ReferenceIdeal.Value.run m' g')
  obtain ⟨h35, h63, h57, hrest⟩ := h c
  obtain ⟨e0, e1, e2, e3, e4⟩ := hargs c
  refine ⟨h35.trans ?_, h63.trans ?_, h57.trans ?_, hrest⟩
  · rw [Cert.ReferenceIdeal.Read.val_main_v35_eq, Cert.ReferenceIdeal.Closed.hidden_eq, e0, e1, e2, e3]
  · rw [Cert.ReferenceIdeal.Read.val_main_v63_eq, Cert.ReferenceIdeal.Closed.codes_eq, e0, e1, e2, e3, e4]
  · rw [Cert.ReferenceIdeal.Read.val_main_v57_eq, Cert.ReferenceIdeal.Closed.scales_eq, e0, e1, e2, e3, e4]

end

/-- The reference runs to the end, its arguments unchanged; it declares no semaphore. -/
theorem frame_reference [Cert.ReferenceIdeal.Facts] : Cert.quiescent_ReferenceIdeal := fun m ρ _ =>
  (θ_run (Cert.ReferenceIdeal.defs (F := Ideal)) _ _).mono
    (fun r h => ⟨fun c => (h c).2.2.2, sem_eq_zero_of_no_sems (by decide) r.2⟩) (Cert.ReferenceIdeal.Value.run m ρ)

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    frame_reference, preserves, algebraic⟩

end Cert.Proof

end
